-- ==== Defs.lean ====
def Pre_Kernel [hPre_whole_pages : Cert.Pre_whole_pages.Facts] (m : (ℓ : Loc Cert.Kernel.nD Cert.Kernel.τ Cert.Kernel.sig) → Buf (Elt Bits) ℓ) : Prop :=
  ∀ c : Dev Cert.Kernel.nD,
    (Cert.Pre_whole_pages.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_whole_pages.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_whole_pages.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.1 = (fun _ => 1#1)
    ∧ (Cert.Pre_whole_pages.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.1 = (fun _ => 1#1)
    ∧ (Cert.Pre_whole_pages.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.2 = (fun _ => 1#1)

def Pre_KernelIdeal [hPre_whole_pages : Cert.Pre_whole_pages.Facts] (m : (ℓ : Loc Cert.KernelIdeal.nD Cert.KernelIdeal.τ Cert.KernelIdeal.sig) → Buf (Elt Ideal) ℓ) : Prop :=
  ∀ c : Dev Cert.KernelIdeal.nD,
    (Cert.Pre_whole_pages.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_whole_pages.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_whole_pages.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_whole_pages.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_whole_pages.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_whole_pages [hPre_whole_pages : Cert.Pre_whole_pages.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_whole_pages.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_whole_pages.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_whole_pages.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_whole_pages.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_whole_pages.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Reference (m : (ℓ : Loc Cert.Reference.nD Cert.Reference.τ Cert.Reference.sig) → Buf (Elt Bits) ℓ) : Prop :=
  True

def Pre_Reference_whole_pages [hPre_whole_pages : Cert.Pre_whole_pages.Facts] (m : (ℓ : Loc Cert.Reference.nD Cert.Reference.τ Cert.Reference.sig) → Buf (Elt Bits) ℓ) : Prop :=
  ∀ c : Dev Cert.Reference.nD,
    (Cert.Pre_whole_pages.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6))).1 = (fun _ => 1#1)
    ∧ (Cert.Pre_whole_pages.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6))).2.1 = (fun _ => 1#1)
    ∧ (Cert.Pre_whole_pages.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6))).2.2.1 = (fun _ => 1#1)
    ∧ (Cert.Pre_whole_pages.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6))).2.2.2.1 = (fun _ => 1#1)
    ∧ (Cert.Pre_whole_pages.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6))).2.2.2.2 = (fun _ => 1#1)

def quiescent_Kernel [hKernel : Cert.Kernel.Facts] [hPre_whole_pages : Cert.Pre_whole_pages.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_whole_pages : Cert.Pre_whole_pages.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_whole_pages [hReferenceIdeal : Cert.ReferenceIdeal.Facts] [hPre_whole_pages : Cert.Pre_whole_pages.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_whole_pages m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def quiescent_Reference_pre_whole_pages [hReference : Cert.Reference.Facts] [hPre_whole_pages : Cert.Pre_whole_pages.Facts] : Prop :=
  ∀ (m : (ℓ : Loc Cert.Reference.nD Cert.Reference.τ Cert.Reference.sig) → Buf (Elt Bits) ℓ) (g : Dev Cert.Reference.nD → PrngReg), Pre_Reference_whole_pages m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_whole_pages : Cert.Pre_whole_pages.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def bitexact_Kernel_Reference [hKernel : Cert.Kernel.Facts] [hReference : Cert.Reference.Facts] [hPre_whole_pages : Cert.Pre_whole_pages.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)) →
    ∃ (v0 : (c : Dev Cert.Kernel.nD) → Buf (Elt Bits) ((c.tc : Thread Cert.Kernel.nD Cert.Kernel.τ).loc Cert.Kernel.main_v78)) (v1 : (c : Dev Cert.Kernel.nD) → Buf (Elt Bits) ((c.tc : Thread Cert.Kernel.nD Cert.Kernel.τ).loc Cert.Kernel.main_v79)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v78) = v0 c
          ∧ r.2.mem ((c.tc : Thread Cert.Kernel.nD Cert.Kernel.τ).loc Cert.Kernel.main_v79) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v33) = v0 c
          ∧ r.2.mem ((c.tc : Thread Cert.Reference.nD Cert.Reference.τ).loc Cert.Reference.main_v40) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6))

def Claim : Prop :=
  ∃ (hKernel : Cert.Kernel.Facts) (hKernelIdeal : Cert.KernelIdeal.Facts) (hReferenceIdeal : Cert.ReferenceIdeal.Facts) (hReference : Cert.Reference.Facts) (hPre_whole_pages : Cert.Pre_whole_pages.Facts),
    quiescent_Kernel (hKernel := hKernel) (hPre_whole_pages := hPre_whole_pages)
    ∧ quiescent_KernelIdeal (hKernelIdeal := hKernelIdeal) (hPre_whole_pages := hPre_whole_pages)
    ∧ quiescent_ReferenceIdeal (hReferenceIdeal := hReferenceIdeal)
    ∧ quiescent_ReferenceIdeal_pre_whole_pages (hReferenceIdeal := hReferenceIdeal) (hPre_whole_pages := hPre_whole_pages)
    ∧ quiescent_Reference (hReference := hReference)
    ∧ quiescent_Reference_pre_whole_pages (hReference := hReference) (hPre_whole_pages := hPre_whole_pages)
    ∧ preserves_Kernel_KernelIdeal
    ∧ algebraic_KernelIdeal_ReferenceIdeal (hKernelIdeal := hKernelIdeal) (hReferenceIdeal := hReferenceIdeal) (hPre_whole_pages := hPre_whole_pages)
    ∧ bitexact_Kernel_Reference (hKernel := hKernel) (hReference := hReference) (hPre_whole_pages := hPre_whole_pages)
-- ==== Pre_whole_pages.lean ====
abbrev S1x2048 : Shape := ⟨2, ![1, 2048]⟩
abbrev S8x8x2048x128 : Shape := ⟨4, ![8, 8, 2048, 128]⟩
abbrev S8 : Shape := ⟨1, ![8]⟩
abbrev S32768x8x128 : Shape := ⟨3, ![32768, 8, 128]⟩
abbrev S8x32 : Shape := ⟨2, ![8, 32]⟩
abbrev S16x128 : Shape := ⟨2, ![16, 128]⟩
abbrev S16x1 : Shape := ⟨2, ![16, 1]⟩
abbrev S_ : Shape := ⟨0, ![]⟩
abbrev S1x16 : Shape := ⟨2, ![1, 16]⟩
abbrev S16 : Shape := ⟨1, ![16]⟩
abbrev S8x1 : Shape := ⟨2, ![8, 1]⟩
abbrev S8x16 : Shape := ⟨2, ![8, 16]⟩
abbrev S8x16x1 : Shape := ⟨3, ![8, 16, 1]⟩
abbrev S8x16x2 : Shape := ⟨3, ![8, 16, 2]⟩
abbrev S128 : Shape := ⟨1, ![128]⟩
abbrev S128x128 : Shape := ⟨2, ![128, 128]⟩
abbrev S128x1 : Shape := ⟨2, ![128, 1]⟩
abbrev S1x128 : Shape := ⟨2, ![1, 128]⟩

class Facts : Prop where
  shapeCasts_S1x2048_S16x128 : S1x2048.ShapeCasts S16x128
  slices_S16x128_S16x1_0_0 : S16x128.Slices ![0, 0] S16x1
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S_S8 : S_.BroadcastsInDim S8 (![] : Fin 0 → Fin S8.rank)
  bcast_S_S8x32 : S_.BroadcastsInDim S8x32 (![] : Fin 0 → Fin S8x32.rank)
  slicesBy_S1x2048_S1x16_0s1_0s128 : S1x2048.SlicesBy (![0, 0] : Fin 2 → Nat) ![1, 128] S1x16
  shapeCasts_S1x16_S16 : S1x16.ShapeCasts S16
  bcast_S_S16 : S_.BroadcastsInDim S16 (![] : Fin 0 → Fin S16.rank)
  bcast_S8_S8x1_0 : S8.BroadcastsInDim S8x1 (![0] : Fin 1 → Fin S8x1.rank)
  bcast_S16_S1x16_1 : S16.BroadcastsInDim S1x16 (![1] : Fin 1 → Fin S1x16.rank)
  bcast_S_S8x1 : S_.BroadcastsInDim S8x1 (![] : Fin 0 → Fin S8x1.rank)
  bcast_S_S1x16 : S_.BroadcastsInDim S1x16 (![] : Fin 0 → Fin S1x16.rank)
  bcast_S8x1_S8x16_0_1 : S8x1.BroadcastsInDim S8x16 (![0, 1] : Fin 2 → Fin S8x16.rank)
  bcast_S1x16_S8x16_0_1 : S1x16.BroadcastsInDim S8x16 (![0, 1] : Fin 2 → Fin S8x16.rank)
  bcast_S8x16_S8x16x1_0_1 : S8x16.BroadcastsInDim S8x16x1 (![0, 1] : Fin 2 → Fin S8x16x1.rank)
  concatenates_S8x16x1_S8x16x1_S8x16x2_d2 : Shape.Concatenates [S8x16x1, S8x16x1] S8x16x2 2
  shapeCasts_S8x16_S128 : S8x16.ShapeCasts S128
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  gather_S8x32_S8x16x2_S8x16_n_01_n_n_01_2_11_wf : GatherDims.WF S8x32 S8x16x2 S8x16 [] [0, 1] [] [0, 1] [] 2 ![1, 1]

variable [Facts]

def gather_S8x32_S8x16x2_S8x16_n_01_n_n_01_2_11 : GatherDims S8x32 S8x16x2 S8x16 where
  offsetDims := []
  collapsedSliceDims := [0, 1]
  operandBatchingDims := []
  startIndicesBatchingDims := []
  startIndexMap := [0, 1]
  indexVectorDim := 2
  sliceSizes := ![1, 1]
  wf := gather_S8x32_S8x16x2_S8x16_n_01_n_n_01_2_11_wf
def fn_part2 {F : FTy → Type} [FloatOps F] (main_arg6 : IVec S8x32 32) (main_v11 : IVec S16x1 1) (main_v15 : IVec S16x128 1) (main_v20 : IVec S8 1) (main_v25 : IVec S8x32 1) (main_v31 : IVec S1x16 32) (main_v36 : IVec S8x1 32) : IVec S16x1 1 × IVec S16x128 1 × IVec S8 1 × IVec S8x32 1 × IVec S128x128 1 :=
  let main_c_10 : IVec S_ 32 := constantI S_ 32 0#32
  let main_v37 : IVec S1x16 32 := broadcastInDim S1x16 ![] bcast_S_S1x16 main_c_10
  let main_v38 : IVec S1x16 1 := cmpi .slt main_v31 main_v37
  let main_c_11 : IVec S_ 32 := constantI S_ 32 32#32
  let main_v39 : IVec S1x16 32 := broadcastInDim S1x16 ![] bcast_S_S1x16 main_c_11
  let main_v40 : IVec S1x16 32 := addi main_v31 main_v39
  let main_v41 : IVec S1x16 32 := select main_v38 main_v40 main_v31
  let main_v42 : IVec S8x16 32 := broadcastInDim S8x16 ![0, 1] bcast_S8x1_S8x16_0_1 main_v36
  let main_v43 : IVec S8x16 32 := broadcastInDim S8x16 ![0, 1] bcast_S1x16_S8x16_0_1 main_v41
  let main_v44 : IVec S8x16x1 32 := broadcastInDim S8x16x1 ![0, 1] bcast_S8x16_S8x16x1_0_1 main_v42
  let main_v45 : IVec S8x16x1 32 := broadcastInDim S8x16x1 ![0, 1] bcast_S8x16_S8x16x1_0_1 main_v43
  let main_v46 : IVec S8x16x2 32 := (fun a b => concatenate S8x16x2 2 [⟨S8x16x1, a⟩, ⟨S8x16x1, b⟩] concatenates_S8x16x1_S8x16x1_S8x16x2_d2) main_v44 main_v45
  let main_v47 : IVec S8x16 32 := (fun x i => Host.gather gather_S8x32_S8x16x2_S8x16_n_01_n_n_01_2_11 x i) main_arg6 main_v46
  let main_v48 : IVec S128 32 := shapeCast S128 main_v47 shapeCasts_S8x16_S128
  let main_v49 : IVec S128x128 32 := iotaInDim S128x128 32 0
  let main_v50 : IVec S128x128 32 := iotaInDim S128x128 32 1
  let main_v51 : IVec S128x128 1 := cmpi .eq main_v49 main_v50
  let main_v52 : IVec S128x1 32 := broadcastInDim S128x1 ![0] bcast_S128_S128x1_0 main_v48
  let main_v53 : IVec S1x128 32 := broadcastInDim S1x128 ![1] bcast_S128_S1x128_1 main_v48
  let main_v54 : IVec S128x128 32 := broadcastInDim S128x128 ![0, 1] bcast_S128x1_S128x128_0_1 main_v52
  let main_v55 : IVec S128x128 32 := broadcastInDim S128x128 ![0, 1] bcast_S1x128_S128x128_0_1 main_v53
  let main_v56 : IVec S128x128 1 := cmpi .ne main_v54 main_v55
  let main_v57 : IVec S128x128 1 := ori main_v51 main_v56
  (main_v11, main_v15, main_v20, main_v25, main_v57)

def fn_part1 {F : FTy → Type} [FloatOps F] (main_arg0 : IVec S1x2048 32) (main_arg3 : IVec S8 32) (main_arg6 : IVec S8x32 32) (main_v11 : IVec S16x1 1) (main_v15 : IVec S16x128 1) (main_v17 : IVec S8 1) (main_c_4 : IVec S_ 32) : IVec S16x1 1 × IVec S16x128 1 × IVec S8 1 × IVec S8x32 1 × IVec S128x128 1 :=
  let main_v18 : IVec S8 32 := broadcastInDim S8 ![] bcast_S_S8 main_c_4
  let main_v19 : IVec S8 1 := cmpi .slt main_arg3 main_v18
  let main_v20 : IVec S8 1 := andi main_v17 main_v19
  let main_c_5 : IVec S_ 32 := constantI S_ 32 0#32
  let main_v21 : IVec S8x32 32 := broadcastInDim S8x32 ![] bcast_S_S8x32 main_c_5
  let main_v22 : IVec S8x32 1 := cmpi .sge main_arg6 main_v21
  let main_c_6 : IVec S_ 32 := constantI S_ 32 256#32
  let main_v23 : IVec S8x32 32 := broadcastInDim S8x32 ![] bcast_S_S8x32 main_c_6
  let main_v24 : IVec S8x32 1 := cmpi .slt main_arg6 main_v23
  let main_v25 : IVec S8x32 1 := andi main_v22 main_v24
  let main_v26 : IVec S1x16 32 := (Host.slice S1x16 ![0, 0] ![1, 128] · slicesBy_S1x2048_S1x16_0s1_0s128) main_arg0
  let main_v27 : IVec S16 32 := shapeCast S16 main_v26 shapeCasts_S1x16_S16
  let main_c_7 : IVec S_ 32 := constantI S_ 32 7#32
  let main_v28 : IVec S16 32 := broadcastInDim S16 ![] bcast_S_S16 main_c_7
  let main_v29 : IVec S16 32 := Host.shrsi main_v27 main_v28
  let main_v30 : IVec S8x1 32 := broadcastInDim S8x1 ![0] bcast_S8_S8x1_0 main_arg3
  let main_v31 : IVec S1x16 32 := broadcastInDim S1x16 ![1] bcast_S16_S1x16_1 main_v29
  let main_c_8 : IVec S_ 32 := constantI S_ 32 0#32
  let main_v32 : IVec S8x1 32 := broadcastInDim S8x1 ![] bcast_S_S8x1 main_c_8
  let main_v33 : IVec S8x1 1 := cmpi .slt main_v30 main_v32
  let main_c_9 : IVec S_ 32 := constantI S_ 32 8#32
  let main_v34 : IVec S8x1 32 := broadcastInDim S8x1 ![] bcast_S_S8x1 main_c_9
  let main_v35 : IVec S8x1 32 := addi main_v30 main_v34
  let main_v36 : IVec S8x1 32 := select main_v33 main_v35 main_v30
  fn_part2 (F := F) main_arg6 main_v11 main_v15 main_v20 main_v25 main_v31 main_v36

def fn {F : FTy → Type} [FloatOps F] (main_arg0 : IVec S1x2048 32) (main_arg1 : FVec F S8x8x2048x128 .f32) (main_arg2 : FVec F S8x8x2048x128 .f32) (main_arg3 : IVec S8 32) (main_arg4 : FVec F S32768x8x128 .f32) (main_arg5 : FVec F S32768x8x128 .f32) (main_arg6 : IVec S8x32 32) : IVec S16x1 1 × IVec S16x128 1 × IVec S8 1 × IVec S8x32 1 × IVec S128x128 1 :=
  let main_v0 : IVec S16x128 32 := shapeCast S16x128 main_arg0 shapeCasts_S1x2048_S16x128
  let main_v1 : IVec S16x1 32 := (extractStridedSlice S16x1 ![0, 0] · slices_S16x128_S16x1_0_0) main_v0
  let main_c : IVec S_ 32 := constantI S_ 32 0#32
  let main_v2 : IVec S16x1 32 := broadcastInDim S16x1 ![] bcast_S_S16x1 main_c
  let main_v3 : IVec S16x1 1 := cmpi .sge main_v1 main_v2
  let main_c_0 : IVec S_ 32 := constantI S_ 32 4096#32
  let main_v4 : IVec S16x1 32 := broadcastInDim S16x1 ![] bcast_S_S16x1 main_c_0
  let main_v5 : IVec S16x1 1 := cmpi .slt main_v1 main_v4
  let main_v6 : IVec S16x1 1 := andi main_v3 main_v5
  let main_c_1 : IVec S_ 32 := constantI S_ 32 127#32
  let main_v7 : IVec S16x1 32 := broadcastInDim S16x1 ![] bcast_S_S16x1 main_c_1
  let main_v8 : IVec S16x1 32 := andi main_v1 main_v7
  let main_c_2 : IVec S_ 32 := constantI S_ 32 0#32
  let main_v9 : IVec S16x1 32 := broadcastInDim S16x1 ![] bcast_S_S16x1 main_c_2
  let main_v10 : IVec S16x1 1 := cmpi .eq main_v8 main_v9
  let main_v11 : IVec S16x1 1 := andi main_v6 main_v10
  let main_v12 : IVec S16x128 32 := iotaInDim S16x128 32 1
  let main_v13 : IVec S16x128 32 := broadcastInDim S16x128 ![0, 1] bcast_S16x1_S16x128_0_1 main_v1
  let main_v14 : IVec S16x128 32 := addi main_v13 main_v12
  let main_v15 : IVec S16x128 1 := cmpi .eq main_v0 main_v14
  let main_c_3 : IVec S_ 32 := constantI S_ 32 0#32
  let main_v16 : IVec S8 32 := broadcastInDim S8 ![] bcast_S_S8 main_c_3
  let main_v17 : IVec S8 1 := cmpi .sge main_arg3 main_v16
  let main_c_4 : IVec S_ 32 := constantI S_ 32 8#32
  fn_part1 (F := F) main_arg0 main_arg3 main_arg6 main_v11 main_v15 main_v17 main_c_4
-- ==== Kernel.lean ====
abbrev S1x2048 : Shape := ⟨2, ![1, 2048]⟩
abbrev S8x8x2048x128 : Shape := ⟨4, ![8, 8, 2048, 128]⟩
abbrev S8 : Shape := ⟨1, ![8]⟩
abbrev S32768x8x128 : Shape := ⟨3, ![32768, 8, 128]⟩
abbrev S8x32 : Shape := ⟨2, ![8, 32]⟩
abbrev S1x16 : Shape := ⟨2, ![1, 16]⟩
abbrev S16 : Shape := ⟨1, ![16]⟩
abbrev S_ : Shape := ⟨0, ![]⟩
abbrev S8x1 : Shape := ⟨2, ![8, 1]⟩
abbrev S8x16 : Shape := ⟨2, ![8, 16]⟩
abbrev S8x16x1 : Shape := ⟨3, ![8, 16, 1]⟩
abbrev S8x16x2 : Shape := ⟨3, ![8, 16, 2]⟩
abbrev S128 : Shape := ⟨1, ![128]⟩
abbrev S256 : Shape := ⟨1, ![256]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S32x32x128 : Shape := ⟨3, ![32, 32, 128]⟩
abbrev S131072x128 : Shape := ⟨2, ![131072, 128]⟩
abbrev S262144x128 : Shape := ⟨2, ![262144, 128]⟩
abbrev S32x128 : Shape := ⟨2, ![32, 128]⟩
abbrev S768x128 : Shape := ⟨2, ![768, 128]⟩
abbrev S1x32x128 : Shape := ⟨3, ![1, 32, 128]⟩
abbrev S128x128 : Shape := ⟨2, ![128, 128]⟩
abbrev S1x128 : Shape := ⟨2, ![1, 128]⟩

abbrev nBuf : Table → Nat
  | .hbm => 181
  | .local .scVector .vmem => 4
  | _ => 0

abbrev hbmTy0_0 (i : Nat) : BufTy := match i % 128 with
  | 0 => ⟨S1x2048, .i32⟩
  | 1 => ⟨S8x8x2048x128, .f32⟩
  | 2 => ⟨S8x8x2048x128, .f32⟩
  | 3 => ⟨S8, .i32⟩
  | 4 => ⟨S32768x8x128, .f32⟩
  | 5 => ⟨S32768x8x128, .f32⟩
  | 6 => ⟨S8x32, .i32⟩
  | 7 => ⟨S1x16, .i32⟩
  | 8 => ⟨S16, .i32⟩
  | 9 => ⟨S_, .i32⟩
  | 10 => ⟨S16, .i32⟩
  | 11 => ⟨S16, .i32⟩
  | 12 => ⟨S8x1, .i32⟩
  | 13 => ⟨S1x16, .i32⟩
  | 14 => ⟨S_, .i32⟩
  | 15 => ⟨S8x1, .i32⟩
  | 16 => ⟨S8x1, .i1⟩
  | 17 => ⟨S_, .i32⟩
  | 18 => ⟨S8x1, .i32⟩
  | 19 => ⟨S8x1, .i32⟩
  | 20 => ⟨S8x1, .i32⟩
  | 21 => ⟨S_, .i32⟩
  | 22 => ⟨S1x16, .i32⟩
  | 23 => ⟨S1x16, .i1⟩
  | 24 => ⟨S_, .i32⟩
  | 25 => ⟨S1x16, .i32⟩
  | 26 => ⟨S1x16, .i32⟩
  | 27 => ⟨S1x16, .i32⟩
  | 28 => ⟨S8x16, .i32⟩
  | 29 => ⟨S8x16, .i32⟩
  | 30 => ⟨S8x16x1, .i32⟩
  | 31 => ⟨S8x16x1, .i32⟩
  | 32 => ⟨S8x16x2, .i32⟩
  | 33 => ⟨S8x16, .i32⟩
  | 34 => ⟨S128, .i32⟩
  | 35 => ⟨S_, .i32⟩
  | 36 => ⟨S256, .i32⟩
  | 37 => ⟨S_, .i32⟩
  | 38 => ⟨S128, .i32⟩
  | 39 => ⟨S128, .i1⟩
  | 40 => ⟨S_, .i32⟩
  | 41 => ⟨S128, .i32⟩
  | 42 => ⟨S128, .i32⟩
  | 43 => ⟨S128, .i32⟩
  | 44 => ⟨S128x1, .i32⟩
  | 45 => ⟨S_, .i32⟩
  | 46 => ⟨S128, .i32⟩
  | 47 => ⟨S256, .i32⟩
  | 48 => ⟨S256, .i32⟩
  | 49 => ⟨S256, .i32⟩
  | 50 => ⟨S256, .i32⟩
  | 51 => ⟨S128, .i32⟩
  | 52 => ⟨S1024, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S1024, .i32⟩
  | 60 => ⟨S1024, .i32⟩
  | 61 => ⟨S_, .i32⟩
  | 62 => ⟨S1024, .i32⟩
  | 63 => ⟨S1024, .i1⟩
  | 64 => ⟨S_, .i32⟩
  | 65 => ⟨S1024, .i32⟩
  | 66 => ⟨S1024, .i1⟩
  | 67 => ⟨S_, .i32⟩
  | 68 => ⟨S_, .i1⟩
  | 69 => ⟨S1024, .i1⟩
  | 70 => ⟨S1024, .i1⟩
  | 71 => ⟨S1024, .i1⟩
  | 72 => ⟨S1024, .i32⟩
  | 73 => ⟨S1024, .i32⟩
  | 74 => ⟨S1024, .i32⟩
  | 75 => ⟨S_, .i32⟩
  | 76 => ⟨S_, .i32⟩
  | 77 => ⟨S1024, .i32⟩
  | 78 => ⟨S1024, .i32⟩
  | 79 => ⟨S1024, .i32⟩
  | 80 => ⟨S_, .i32⟩
  | 81 => ⟨S1024, .i32⟩
  | 82 => ⟨S1024, .i1⟩
  | 83 => ⟨S1024, .i32⟩
  | 84 => ⟨S1024, .i32⟩
  | 85 => ⟨S_, .i32⟩
  | 86 => ⟨S1024, .i32⟩
  | 87 => ⟨S1024, .i1⟩
  | 88 => ⟨S1024, .i1⟩
  | 89 => ⟨S_, .i32⟩
  | 90 => ⟨S1024, .i32⟩
  | 91 => ⟨S1024, .i32⟩
  | 92 => ⟨S1024, .i32⟩
  | 93 => ⟨S128, .i32⟩
  | 94 => ⟨S_, .i32⟩
  | 95 => ⟨S_, .i32⟩
  | 96 => ⟨S128, .i32⟩
  | 97 => ⟨S128, .i32⟩
  | 98 => ⟨S128, .i32⟩
  | 99 => ⟨S_, .i32⟩
  | 100 => ⟨S128, .i32⟩
  | 101 => ⟨S128, .i1⟩
  | 102 => ⟨S128, .i32⟩
  | 103 => ⟨S128, .i32⟩
  | 104 => ⟨S_, .i32⟩
  | 105 => ⟨S128, .i32⟩
  | 106 => ⟨S128, .i1⟩
  | 107 => ⟨S128, .i1⟩
  | 108 => ⟨S_, .i32⟩
  | 109 => ⟨S128, .i32⟩
  | 110 => ⟨S128, .i32⟩
  | 111 => ⟨S128, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S128, .i32⟩
  | 119 => ⟨S128, .i32⟩
  | 120 => ⟨S_, .i32⟩
  | 121 => ⟨S128, .i32⟩
  | 122 => ⟨S128, .i1⟩
  | 123 => ⟨S_, .i32⟩
  | 124 => ⟨S128, .i32⟩
  | 125 => ⟨S128, .i1⟩
  | 126 => ⟨S_, .i32⟩
  | 127 => ⟨S_, .i1⟩
  | _ => ⟨S1x2048, .i32⟩

abbrev hbmTy0_1 (i : Nat) : BufTy := match i % 128 with
  | 0 => ⟨S128, .i1⟩
  | 1 => ⟨S128, .i1⟩
  | 2 => ⟨S128, .i1⟩
  | 3 => ⟨S128, .i32⟩
  | 4 => ⟨S128, .i32⟩
  | 5 => ⟨S128, .i32⟩
  | 6 => ⟨S_, .i32⟩
  | 7 => ⟨S128, .i32⟩
  | 8 => ⟨S128, .i32⟩
  | 9 => ⟨S_, .i32⟩
  | 10 => ⟨S128, .i32⟩
  | 11 => ⟨S128, .i32⟩
  | 12 => ⟨S128, .i32⟩
  | 13 => ⟨S128x1, .i32⟩
  | 14 => ⟨S_, .i32⟩
  | 15 => ⟨S1024, .i32⟩
  | 16 => ⟨S1024, .i32⟩
  | 17 => ⟨S1024, .i32⟩
  | 18 => ⟨S1x1024, .i32⟩
  | 19 => ⟨S128x1024, .i32⟩
  | 20 => ⟨S128x1024, .i32⟩
  | 21 => ⟨S128x1024, .i32⟩
  | 22 => ⟨S_, .i32⟩
  | 23 => ⟨S128, .i32⟩
  | 24 => ⟨S128, .i32⟩
  | 25 => ⟨S128x1, .i32⟩
  | 26 => ⟨S_, .i32⟩
  | 27 => ⟨S1024, .i32⟩
  | 28 => ⟨S1024, .i32⟩
  | 29 => ⟨S1024, .i32⟩
  | 30 => ⟨S1x1024, .i32⟩
  | 31 => ⟨S128x1024, .i32⟩
  | 32 => ⟨S128x1024, .i32⟩
  | 33 => ⟨S128x1024, .i32⟩
  | 34 => ⟨S_, .i32⟩
  | 35 => ⟨S128, .i32⟩
  | 36 => ⟨S128, .i32⟩
  | 37 => ⟨S128x1, .i32⟩
  | 38 => ⟨S1x1024, .i32⟩
  | 39 => ⟨S128x1024, .i32⟩
  | 40 => ⟨S128x1024, .i32⟩
  | 41 => ⟨S128x1024, .i32⟩
  | 42 => ⟨S32x32x128, .i32⟩
  | 43 => ⟨S32x32x128, .i32⟩
  | 44 => ⟨S32x32x128, .i32⟩
  | 45 => ⟨S131072x128, .f32⟩
  | 46 => ⟨S131072x128, .f32⟩
  | 47 => ⟨S262144x128, .f32⟩
  | 48 => ⟨S262144x128, .f32⟩
  | 49 => ⟨S262144x128, .f32⟩
  | 50 => ⟨S262144x128, .f32⟩
  | 51 => ⟨S32768x8x128, .f32⟩
  | 52 => ⟨S32768x8x128, .f32⟩
  | _ => ⟨S1x2048, .i32⟩

abbrev hbmTy (i : Nat) : BufTy := match i / 128 with
  | 0 => hbmTy0_0 i
  | 1 => hbmTy0_1 i
  | _ => ⟨S1x2048, .i32⟩

abbrev bufTy : (tb : Table) → Fin (nBuf tb) → BufTy
  | .hbm, ⟨i, _⟩ => hbmTy i
  | .local .scVector .vmem, ⟨0, _⟩ => ⟨S32x128, .i32⟩
  | .local .scVector .vmem, ⟨1, _⟩ => ⟨S32x128, .i32⟩
  | .local .scVector .vmem, ⟨2, _⟩ => ⟨S32x128, .i32⟩
  | .local .scVector .vmem, ⟨3, _⟩ => ⟨S768x128, .f32⟩
  | _, _ => ⟨S1x2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1_0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_c_1 : Ref sig .tc := ⟨.hbm, 61, rfl⟩
abbrev main_call1_v5 : Ref sig .tc := ⟨.hbm, 62, rfl⟩
abbrev main_call1_v6 : Ref sig .tc := ⟨.hbm, 63, rfl⟩
abbrev main_call1_c_2 : Ref sig .tc := ⟨.hbm, 64, rfl⟩
abbrev main_call1_v7 : Ref sig .tc := ⟨.hbm, 65, rfl⟩
abbrev main_call1_v8 : Ref sig .tc := ⟨.hbm, 66, rfl⟩
abbrev main_call1_c_3 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_v35 : Ref sig .tc := ⟨.hbm, 74, rfl⟩
abbrev main_c_9 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_c : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_0 : Ref sig .tc := ⟨.hbm, 89, rfl⟩
abbrev main_call2_v12 : Ref sig .tc := ⟨.hbm, 90, rfl⟩
abbrev main_call2_v13 : Ref sig .tc := ⟨.hbm, 91, rfl⟩
abbrev main_v36 : Ref sig .tc := ⟨.hbm, 92, rfl⟩
abbrev main_v37 : Ref sig .tc := ⟨.hbm, 93, rfl⟩
abbrev main_c_10 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_c : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_0 : Ref sig .tc := ⟨.hbm, 108, rfl⟩
abbrev main_call3_v12 : Ref sig .tc := ⟨.hbm, 109, rfl⟩
abbrev main_call3_v13 : Ref sig .tc := ⟨.hbm, 110, rfl⟩
abbrev main_v38 : Ref sig .tc := ⟨.hbm, 111, rfl⟩
abbrev main_c_11 : Ref sig .tc := ⟨.hbm, 112, rfl⟩
abbrev main_call4_v0 : Ref sig .tc := ⟨.hbm, 113, rfl⟩
abbrev main_call4_c : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_c_1 : Ref sig .tc := ⟨.hbm, 120, rfl⟩
abbrev main_call4_v5 : Ref sig .tc := ⟨.hbm, 121, rfl⟩
abbrev main_call4_v6 : Ref sig .tc := ⟨.hbm, 122, rfl⟩
abbrev main_call4_c_2 : Ref sig .tc := ⟨.hbm, 123, rfl⟩
abbrev main_call4_v7 : Ref sig .tc := ⟨.hbm, 124, rfl⟩
abbrev main_call4_v8 : Ref sig .tc := ⟨.hbm, 125, rfl⟩
abbrev main_call4_c_3 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_v12 : Ref sig .tc := ⟨.hbm, 130, rfl⟩
abbrev main_call4_v13 : Ref sig .tc := ⟨.hbm, 131, rfl⟩
abbrev main_call4_v14 : Ref sig .tc := ⟨.hbm, 132, rfl⟩
abbrev main_v39 : Ref sig .tc := ⟨.hbm, 133, rfl⟩
abbrev main_c_12 : Ref sig .tc := ⟨.hbm, 134, rfl⟩
abbrev main_v40 : Ref sig .tc := ⟨.hbm, 135, rfl⟩
abbrev main_v41 : Ref sig .tc := ⟨.hbm, 136, rfl⟩
abbrev main_c_13 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_c_14 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_c_15 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_c_16 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_c_17 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77_0 : Ref sig .tc := ⟨.hbm, 177, rfl⟩
abbrev main_v77_1 : Ref sig .tc := ⟨.hbm, 178, rfl⟩
abbrev main_v78 : Ref sig .tc := ⟨.hbm, 179, rfl⟩
abbrev main_v79 : Ref sig .tc := ⟨.hbm, 180, rfl⟩
abbrev main_v70_scv : Ref sig .scVector := ⟨.hbm, 170, rfl⟩
abbrev main_v71_scv : Ref sig .scVector := ⟨.hbm, 171, rfl⟩
abbrev main_v72_scv : Ref sig .scVector := ⟨.hbm, 172, rfl⟩
abbrev main_v73_scv : Ref sig .scVector := ⟨.hbm, 173, rfl⟩
abbrev main_v74_scv : Ref sig .scVector := ⟨.hbm, 174, rfl⟩
abbrev main_v75_scv : Ref sig .scVector := ⟨.hbm, 175, rfl⟩
abbrev main_v76_scv : Ref sig .scVector := ⟨.hbm, 176, rfl⟩
abbrev main_v77_0_scv : Ref sig .scVector := ⟨.hbm, 177, rfl⟩
abbrev main_v77_1_scv : Ref sig .scVector := ⟨.hbm, 178, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3036_r0 : BitVec 32 := 0#32
  let c0_i32_3037_r0 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S1x2048 : Shape := ⟨2, ![1, 2048]⟩
abbrev S8x8x2048x128 : Shape := ⟨4, ![8, 8, 2048, 128]⟩
abbrev S8 : Shape := ⟨1, ![8]⟩
abbrev S32768x8x128 : Shape := ⟨3, ![32768, 8, 128]⟩
abbrev S8x32 : Shape := ⟨2, ![8, 32]⟩
abbrev S8x2048 : Shape := ⟨2, ![8, 2048]⟩
abbrev S_ : Shape := ⟨0, ![]⟩
abbrev S8x1 : Shape := ⟨2, ![8, 1]⟩
abbrev S8x2048x1 : Shape := ⟨3, ![8, 2048, 1]⟩
abbrev S8x2048x2 : Shape := ⟨3, ![8, 2048, 2]⟩
abbrev S16384 : Shape := ⟨1, ![16384]⟩
abbrev S8x2048x8x128 : Shape := ⟨4, ![8, 2048, 8, 128]⟩
abbrev S16384x8x128 : Shape := ⟨3, ![16384, 8, 128]⟩
abbrev S16384x1 : Shape := ⟨2, ![16384, 1]⟩

abbrev nBuf : Space → Nat
  | .hbm => 95
  | .vmem => 0
  | .smem => 0
  | _ => 0

abbrev bufTy : (tb : Table) → Fin (tcTables nBuf tb) → BufTy
  | .hbm, ⟨0, _⟩ => ⟨S1x2048, .i32⟩
  | .hbm, ⟨1, _⟩ => ⟨S8x8x2048x128, .f32⟩
  | .hbm, ⟨2, _⟩ => ⟨S8x8x2048x128, .f32⟩
  | .hbm, ⟨3, _⟩ => ⟨S8, .i32⟩
  | .hbm, ⟨4, _⟩ => ⟨S32768x8x128, .f32⟩
  | .hbm, ⟨5, _⟩ => ⟨S32768x8x128, .f32⟩
  | .hbm, ⟨6, _⟩ => ⟨S8x32, .i32⟩
  | .hbm, ⟨7, _⟩ => ⟨S8x2048, .i32⟩
  | .hbm, ⟨8, _⟩ => ⟨S_, .i32⟩
  | .hbm, ⟨9, _⟩ => ⟨S_, .i32⟩
  | .hbm, ⟨10, _⟩ => ⟨S8x2048, .i32⟩
  | .hbm, ⟨11, _⟩ => ⟨S8x2048, .i32⟩
  | .hbm, ⟨12, _⟩ => ⟨S8x2048, .i32⟩
  | .hbm, ⟨13, _⟩ => ⟨S_, .i32⟩
  | .hbm, ⟨14, _⟩ => ⟨S8x2048, .i32⟩
  | .hbm, ⟨15, _⟩ => ⟨S8x2048, .i1⟩
  | .hbm, ⟨16, _⟩ => ⟨S8x2048, .i32⟩
  | .hbm, ⟨17, _⟩ => ⟨S8x2048, .i32⟩
  | .hbm, ⟨18, _⟩ => ⟨S_, .i32⟩
  | .hbm, ⟨19, _⟩ => ⟨S8x2048, .i32⟩
  | .hbm, ⟨20, _⟩ => ⟨S8x2048, .i1⟩
  | .hbm, ⟨21, _⟩ => ⟨S8x2048, .i1⟩
  | .hbm, ⟨22, _⟩ => ⟨S_, .i32⟩
  | .hbm, ⟨23, _⟩ => ⟨S8x2048, .i32⟩
  | .hbm, ⟨24, _⟩ => ⟨S8x2048, .i32⟩
  | .hbm, ⟨25, _⟩ => ⟨S8x2048, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S8x2048, .i32⟩
  | .hbm, ⟨33, _⟩ => ⟨S8x2048, .i32⟩
  | .hbm, ⟨34, _⟩ => ⟨S_, .i32⟩
  | .hbm, ⟨35, _⟩ => ⟨S8x2048, .i32⟩
  | .hbm, ⟨36, _⟩ => ⟨S8x2048, .i1⟩
  | .hbm, ⟨37, _⟩ => ⟨S_, .i32⟩
  | .hbm, ⟨38, _⟩ => ⟨S8x2048, .i32⟩
  | .hbm, ⟨39, _⟩ => ⟨S8x2048, .i1⟩
  | .hbm, ⟨40, _⟩ => ⟨S_, .i32⟩
  | .hbm, ⟨41, _⟩ => ⟨S_, .i1⟩
  | .hbm, ⟨42, _⟩ => ⟨S8x2048, .i1⟩
  | .hbm, ⟨43, _⟩ => ⟨S8x2048, .i1⟩
  | .hbm, ⟨44, _⟩ => ⟨S8x2048, .i1⟩
  | .hbm, ⟨45, _⟩ => ⟨S8x2048, .i32⟩
  | .hbm, ⟨46, _⟩ => ⟨S8x2048, .i32⟩
  | .hbm, ⟨47, _⟩ => ⟨S8x2048, .i32⟩
  | .hbm, ⟨48, _⟩ => ⟨S8x1, .i32⟩
  | .hbm, ⟨49, _⟩ => ⟨S_, .i32⟩
  | .hbm, ⟨50, _⟩ => ⟨S8x1, .i32⟩
  | .hbm, ⟨51, _⟩ => ⟨S8x1, .i1⟩
  | .hbm, ⟨52, _⟩ => ⟨S_, .i32⟩
  | .hbm, ⟨53, _⟩ => ⟨S8x1, .i32⟩
  | .hbm, ⟨54, _⟩ => ⟨S8x1, .i32⟩
  | .hbm, ⟨55, _⟩ => ⟨S8x1, .i32⟩
  | .hbm, ⟨56, _⟩ => ⟨S_, .i32⟩
  | .hbm, ⟨57, _⟩ => ⟨S8x2048, .i32⟩
  | .hbm, ⟨58, _⟩ => ⟨S8x2048, .i1⟩
  | .hbm, ⟨59, _⟩ => ⟨S_, .i32⟩
  | .hbm, ⟨60, _⟩ => ⟨S8x2048, .i32⟩
  | .hbm, ⟨61, _⟩ => ⟨S8x2048, .i32⟩
  | .hbm, ⟨62, _⟩ => ⟨S8x2048, .i32⟩
  | .hbm, ⟨63, _⟩ => ⟨S8x2048, .i32⟩
  | .hbm, ⟨64, _⟩ => ⟨S8x2048x1, .i32⟩
  | .hbm, ⟨65, _⟩ => ⟨S8x2048x1, .i32⟩
  | .hbm, ⟨66, _⟩ => ⟨S8x2048x2, .i32⟩
  | .hbm, ⟨67, _⟩ => ⟨S8x2048, .i32⟩
  | .hbm, ⟨68, _⟩ => ⟨S_, .i32⟩
  | .hbm, ⟨69, _⟩ => ⟨S8x2048, .i32⟩
  | .hbm, ⟨70, _⟩ => ⟨S8x2048, .i32⟩
  | .hbm, ⟨71, _⟩ => ⟨S8x2048, .i32⟩
  | .hbm, ⟨72, _⟩ => ⟨S16384, .i32⟩
  | .hbm, ⟨73, _⟩ => ⟨S8x2048x8x128, .f32⟩
  | .hbm, ⟨74, _⟩ => ⟨S16384x8x128, .f32⟩
  | .hbm, ⟨75, _⟩ => ⟨S8x2048x8x128, .f32⟩
  | .hbm, ⟨76, _⟩ => ⟨S16384x8x128, .f32⟩
  | .hbm, ⟨77, _⟩ => ⟨S_, .i32⟩
  | .hbm, ⟨78, _⟩ => ⟨S16384, .i32⟩
  | .hbm, ⟨79, _⟩ => ⟨S16384, .i1⟩
  | .hbm, ⟨80, _⟩ => ⟨S_, .i32⟩
  | .hbm, ⟨81, _⟩ => ⟨S16384, .i32⟩
  | .hbm, ⟨82, _⟩ => ⟨S16384, .i32⟩
  | .hbm, ⟨83, _⟩ => ⟨S16384, .i32⟩
  | .hbm, ⟨84, _⟩ => ⟨S16384x1, .i32⟩
  | .hbm, ⟨85, _⟩ => ⟨S32768x8x128, .f32⟩
  | .hbm, ⟨86, _⟩ => ⟨S_, .i32⟩
  | .hbm, ⟨87, _⟩ => ⟨S16384, .i32⟩
  | .hbm, ⟨88, _⟩ => ⟨S16384, .i1⟩
  | .hbm, ⟨89, _⟩ => ⟨S_, .i32⟩
  | .hbm, ⟨90, _⟩ => ⟨S16384, .i32⟩
  | .hbm, ⟨91, _⟩ => ⟨S16384, .i32⟩
  | .hbm, ⟨92, _⟩ => ⟨S16384, .i32⟩
  | .hbm, ⟨93, _⟩ => ⟨S16384x1, .i32⟩
  | .hbm, ⟨94, _⟩ => ⟨S32768x8x128, .f32⟩
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v2 : Ref sig .tc := ⟨.hbm, 47, rfl⟩
abbrev main_v3 : Ref sig .tc := ⟨.hbm, 48, rfl⟩
abbrev main_c_1 : Ref sig .tc := ⟨.hbm, 49, rfl⟩
abbrev main_v4 : Ref sig .tc := ⟨.hbm, 50, rfl⟩
abbrev main_v5 : Ref sig .tc := ⟨.hbm, 51, rfl⟩
abbrev main_c_2 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_c_3 : Ref sig .tc := ⟨.hbm, 56, rfl⟩
abbrev main_v9 : Ref sig .tc := ⟨.hbm, 57, rfl⟩
abbrev main_v10 : Ref sig .tc := ⟨.hbm, 58, rfl⟩
abbrev main_c_4 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_c_5 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_c_6 : Ref sig .tc := ⟨.hbm, 77, rfl⟩
abbrev main_v27 : Ref sig .tc := ⟨.hbm, 78, rfl⟩
abbrev main_v28 : Ref sig .tc := ⟨.hbm, 79, rfl⟩
abbrev main_c_7 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_c_8 : Ref sig .tc := ⟨.hbm, 86, rfl⟩
abbrev main_v34 : Ref sig .tc := ⟨.hbm, 87, rfl⟩
abbrev main_v35 : Ref sig .tc := ⟨.hbm, 88, rfl⟩
abbrev main_c_9 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩

abbrev nD : Nat := 1
abbrev τ : Topo := Topo.v7x

variable {F : FTy → Type} [FloatOps F]
-- ==== Proof.Ops.lean ====
/-
  The task's program in normal form. The printed body of the kernel is cut into parts by length; here it is the three index
  loads followed by one list of actions over the 128 chunks of rows a tile moves: gather chunk `j` into its slot of the ring, wait
  for that, scatter the slot onto the rows of the result, wait for that.
-/
module

public import proofs.«01_k».proof.Defs
public import proofs.«01_k».proof.Proof.Gen.KernelIdeal
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic

@[expose] public section

noncomputable section

namespace Cert.Proof.Fill

open Cert.KernelIdeal Cert.KernelIdeal.Gen
open Idealize.ShloMosaic Idealize.SL.Sem

variable {F : FTy → Type}

/-! ## The memrefs -/

abbrev wgV : Memref sig .scVector .hbm S32x32x128 .i32 := Memref.whole main_v70_scv
abbrev woV : Memref sig .scVector .hbm S32x32x128 .i32 := Memref.whole main_v71_scv
abbrev paV : Memref sig .scVector .hbm S32x32x128 .i32 := Memref.whole main_v72_scv
abbrev kvV : Memref sig .scVector .hbm S131072x128 .f32 := Memref.whole main_v73_scv
abbrev vvV : Memref sig .scVector .hbm S131072x128 .f32 := Memref.whole main_v74_scv
abbrev kcV : Memref sig .scVector .hbm S262144x128 .f32 := Memref.whole main_v75_scv
abbrev vcV : Memref sig .scVector .hbm S262144x128 .f32 := Memref.whole main_v76_scv
abbrev koV : Memref sig .scVector .hbm S262144x128 .f32 := Memref.whole main_v77_0_scv
abbrev voV : Memref sig .scVector .hbm S262144x128 .f32 := Memref.whole main_v77_1_scv
abbrev gixV : Memref sig .scVector .vmem S32x128 .i32 := Memref.whole cc0_scratch0
abbrev oixV : Memref sig .scVector .vmem S32x128 .i32 := Memref.whole cc0_scratch1
abbrev pixV : Memref sig .scVector .vmem S32x128 .i32 := Memref.whole cc0_scratch2
abbrev bufV : Memref sig .scVector .vmem S768x128 .f32 := Memref.whole cc0_scratch3

/-- All of a row array of 131072 rows, as the copies address it. -/
abbrev allA (M : Memref sig .scVector .hbm S131072x128 .f32) : Memref sig .scVector .hbm S131072x128 .f32 :=
  M.slice (Rect.unit (s := S131072x128) ![0, 0] S131072x128.size inb_S131072x128_S131072x128_0_0) (fun _ => rfl)
/-- All of a row array of 262144 rows, as the copies address it. -/
abbrev allB (M : Memref sig .scVector .hbm S262144x128 .f32) : Memref sig .scVector .hbm S262144x128 .f32 :=
  M.slice (Rect.unit (s := S262144x128) ![0, 0] S262144x128.size inb_S262144x128_S262144x128_0_0) (fun _ => rfl)

theorem inb_row (r : Fin 32) : ∀ a, (![r.val, 0] : Fin 2 → Nat) a + S1x128.size a ≤ S32x128.size a := by
  revert r; decide
theorem inb_slot (q : Fin 6) : ∀ a, (![128 * q.val, 0] : Fin 2 → Nat) a + S128x128.size a ≤ S768x128.size a := by
  revert q; decide

/-- Row `r` of an index table, as a list of 128 words. -/
abbrev rowOf (M : Memref sig .scVector .vmem S32x128 .i32) (r : Fin 32) : Memref sig .scVector .vmem S128 .i32 :=
  (M.slice (Rect.unit (s := S32x128) ![r.val, 0] S1x128.size (inb_row r)) (fun _ => rfl)).squeeze S128 squeezes_S1x128_S128
/-- Slot `q` of the ring: 128 rows of the ring buffer. -/
abbrev slotOf (q : Fin 6) : Memref sig .scVector .vmem S128x128 .f32 :=
  bufV.slice (Rect.unit (s := S768x128) ![128 * q.val, 0] S128x128.size (inb_slot q)) (fun _ => rfl)

/-- The semaphore that slot `q`'s gathers complete on. -/
def gsem (q : Fin 6) : DmaSem sig :=
  match q with
  | 0 => cc0_scratch4.sem | 1 => cc0_scratch5.sem | 2 => cc0_scratch6.sem
  | 3 => cc0_scratch7.sem | 4 => cc0_scratch8.sem | 5 => cc0_scratch9.sem
/-- The semaphore that slot `q`'s scatters complete on. -/
def ssem (q : Fin 6) : DmaSem sig :=
  match q with
  | 0 => cc0_scratch10.sem | 1 => cc0_scratch11.sem | 2 => cc0_scratch12.sem
  | 3 => cc0_scratch13.sem | 4 => cc0_scratch14.sem | 5 => cc0_scratch15.sem

/-! ## A chunk of rows and its four actions -/

/-- One chunk: 128 rows of `src` at the words of `gl` go through `slot` onto the rows of `dst` at the words of `sl`. -/
structure Chunk where
  s₀ : Shape
  src : Memref sig .scVector .hbm s₀ .f32
  hg : s₀.Gathers 0 S128x128
  hr : s₀.StreamRows 0
  dst : Memref sig .scVector .hbm S262144x128 .f32
  gl : Memref sig .scVector .vmem S128 .i32
  sl : Memref sig .scVector .vmem S128 .i32
  slot : Memref sig .scVector .vmem S128x128 .f32
  gs : DmaSem sig
  ss : DmaSem sig

variable {c : Fin τ.nSC} {s : Fin τ.nSub}

/-- The programs of a vector subcore's task. -/
abbrev TP (F : FTy → Type) (c : Fin τ.nSC) (s : Fin τ.nSub) : Type 1 := Prog (TpuEff nD τ sig (Elt F) Λ₀ (.scVector c s)) PUnit

def Chunk.gather (C : Chunk) : TP F c s :=
  SparseCore.enqueueIndirectGather rfl C.src C.slot C.hg C.gl rfl C.gs (View.wordExact_bits rfl) rfl (Or.inl rfl) C.hr
def Chunk.waitGather (C : Chunk) : TP F c s :=
  SparseCore.waitIndirectGather C.gs C.src C.slot (View.wordExact_bits rfl) (View.wordExact_bits rfl)
def Chunk.scatter (C : Chunk) : TP F c s :=
  SparseCore.enqueueIndirectScatter rfl C.slot C.dst gathers_S262144x128_S128x128 C.sl rfl C.ss rfl (Or.inl rfl)
def Chunk.waitScatter (C : Chunk) : TP F c s :=
  SparseCore.waitIndirectScatter C.ss C.slot C.dst (View.wordExact_bits rfl) (View.wordExact_bits rfl)

/-- Chunk `(g, r)` in slot `q`: group `g` of the four, row `r` of its index tables. -/
def chunkAt (g : Fin 4) (r : Fin 32) (q : Fin 6) : Chunk :=
  match g with
  | 0 => ⟨S131072x128, allA kvV, gathers_S131072x128_S128x128, by decide, allB koV, rowOf gixV r, rowOf oixV r, slotOf q, gsem q, ssem q⟩
  | 1 => ⟨S262144x128, allB kcV, gathers_S262144x128_S128x128, by decide, allB koV, rowOf pixV r, rowOf pixV r, slotOf q, gsem q, ssem q⟩
  | 2 => ⟨S131072x128, allA vvV, gathers_S131072x128_S128x128, by decide, allB voV, rowOf gixV r, rowOf oixV r, slotOf q, gsem q, ssem q⟩
  | 3 => ⟨S262144x128, allB vcV, gathers_S262144x128_S128x128, by decide, allB voV, rowOf pixV r, rowOf pixV r, slotOf q, gsem q, ssem q⟩

/-- Chunk `j`'s group, row and slot. -/
abbrev grpOf (j : ℕ) : Fin 4 := Fin.ofNat 4 (j / 32)
abbrev rowIx (j : ℕ) : Fin 32 := Fin.ofNat 32 j
abbrev slotIx (j : ℕ) : Fin 6 := Fin.ofNat 6 j
def chunk (j : ℕ) : Chunk := chunkAt (grpOf j) (rowIx j) (slotIx j)

/-- The four kinds of action on chunk `j`. -/
inductive Act
  | G (j : ℕ) | WG (j : ℕ) | S (j : ℕ) | WS (j : ℕ)

def act : Act → TP F c s
  | .G j => (chunk j).gather
  | .WG j => (chunk j).waitGather
  | .S j => (chunk j).scatter
  | .WS j => (chunk j).waitScatter

/-- A list of actions, one after the other. -/
def run : List Act → TP F c s
  | [] => .ret ⟨⟩
  | a :: l => act a >>= fun _ => run l

/-- What stands before chunk `m`'s gather: nothing while the ring has free slots, then the wait for the scatter that frees one. -/
def before : ℕ → List Act
  | 0 => [] | 1 => [] | 2 => [] | 3 => [] | 4 => [] | 5 => []
  | n + 6 => [.WS n]
/-- What stands after chunk `m`'s gather: the chunk before it, once gathered, is scattered. -/
def after : ℕ → List Act
  | 0 => []
  | n + 1 => [.WG n, .S n]

/-- Steps `m`, `m + 1`, …, `k` of them, then `tl`. -/
def steps (tl : List Act) : ℕ → ℕ → List Act
  | 0, _ => tl
  | k + 1, m => before m ++ .G m :: (after m ++ steps tl k (m + 1))

/-- The last chunk's scatter and the waits for the six scatters still on their way, slot by slot. -/
def tailActs : List Act := [.WG 127, .S 127, .WS 126, .WS 127, .WS 122, .WS 123, .WS 124, .WS 125]

def sched : List Act := steps tailActs 128 0

variable [FloatOps F]

/-- The three index loads at the head of the task. -/
def loads (i : grid0.Coords) : TP F ((i 0).castLE hcore0) ((i 1).castLE hsub0) :=
  k0_part1 i wgV (Memref.isWhole_whole _) woV (Memref.isWhole_whole _) paV (Memref.isWhole_whole _) kvV (Memref.isWhole_whole _)
    vvV (Memref.isWhole_whole _) kcV (Memref.isWhole_whole _) vcV (Memref.isWhole_whole _) koV (Memref.isWhole_whole _) voV (Memref.isWhole_whole _)
    gixV (Memref.isWhole_whole _) oixV (Memref.isWhole_whole _) pixV (Memref.isWhole_whole _) bufV (Memref.isWhole_whole _)
    cc0_scratch4 cc0_scratch5 cc0_scratch6 cc0_scratch7 cc0_scratch8 cc0_scratch9 cc0_scratch10 cc0_scratch11 cc0_scratch12 cc0_scratch13
    cc0_scratch14 cc0_scratch15 cc0_scoped0 cc0_scoped1 cc0_scoped2

/-- The printed body of the task. -/
def body (i : grid0.Coords) : TP F ((i 0).castLE hcore0) ((i 1).castLE hsub0) :=
  cc0_sc_fill i wgV (Memref.isWhole_whole _) woV (Memref.isWhole_whole _) paV (Memref.isWhole_whole _) kvV (Memref.isWhole_whole _)
    vvV (Memref.isWhole_whole _) kcV (Memref.isWhole_whole _) vcV (Memref.isWhole_whole _) koV (Memref.isWhole_whole _) voV (Memref.isWhole_whole _)
    gixV (Memref.isWhole_whole _) oixV (Memref.isWhole_whole _) pixV (Memref.isWhole_whole _) bufV (Memref.isWhole_whole _)
    cc0_scratch4 cc0_scratch5 cc0_scratch6 cc0_scratch7 cc0_scratch8 cc0_scratch9 cc0_scratch10 cc0_scratch11 cc0_scratch12 cc0_scratch13
    cc0_scratch14 cc0_scratch15 cc0_scoped0 cc0_scoped1 cc0_scoped2

set_option maxRecDepth 65536 in
set_option maxHeartbeats 40000000 in
/-- The printed body is the three loads and the scheduled actions: by computation. -/
theorem body_eq (i : grid0.Coords) : body (F := F) i = (loads i >>= fun _ => run sched) := rfl

end Cert.Proof.Fill

end
-- ==== Proof.Steps.lean ====
/-
  The rules of the four actions on a chunk of rows. A tile's holding of chunk `j` goes through four states: not begun (the rows of
  the result still at their old contents), its gather on its way, its scatter on its way, and done (those rows at their new
  contents). Each action moves one chunk to its next state; a free slot of the ring is what a gather takes and what the wait for a
  scatter gives back.
-/
module

public import proofs.«01_k».proof.Proof.Ops
public import Idealize.ShloMosaic.Lib.ViewIndex

@[expose] public section

noncomputable section

namespace Cert.Proof.Fill

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds library, the transfers' counters -/

abbrev UH : Type := URounds (GSem nD τ sig) ℕ
abbrev UU : Type := UH × Counters
/-- The logic's model at this program. -/
abbrev MM (F : FTy → Type) : Type := MT nD τ sig (HIx 1) (Elt F) ℕ UU ℕ
abbrev 𝒱₀ : Variants := Variants.none

/-! ## What is held for a chunk -/

section Chunks

variable (d : Dev nD) (c : Fin τ.nSC) (s : Fin τ.nSub)

/-- The shares and contents a tile holds for a chunk: of the source `fs`, of the two index lists `fg` and `fl`, and of the result
    before and after, `fo` and `ft`. -/
structure Held (F : FTy → Type) (C : Chunk) where
  qs : PosShare TreeShare
  qg : PosShare TreeShare
  ql : PosShare TreeShare
  fs : Buf (Elt F) (C.src.view.loc (V d c s))
  fg : Buf (Elt F) (C.gl.view.loc (V d c s))
  fl : Buf (Elt F) (C.sl.view.loc (V d c s))
  fo : Buf (Elt F) (C.dst.view.loc (V d c s))
  ft : Buf (Elt F) (C.dst.view.loc (V d c s))

variable {d c s} {C : Chunk} (h : Held d c s F C)

/-- The words of the two lists. -/
abbrev Held.gw : S128.Idx → Elt F .i32 := C.gl.view.read (Elt F) h.fg
abbrev Held.sw : S128.Idx → Elt F .i32 := C.sl.view.read (Elt F) h.fl

/-- The lists' words are rows, the scatter's pairwise distinct, and the new contents hold at the row a scatter word names the
    source's row that the gather word beside it names. -/
structure Held.OK : Prop where
  hin : ∀ x, (h.gw x).toNat < C.s₀.size C.hg.axis
  hins : ∀ x, (h.sw x).toNat < S262144x128.size gathers_S262144x128_S128x128.axis
  hinj : Function.Injective fun x => (h.sw x).toNat
  htgt : ∀ (x : S128.Idx) (i : S262144x128.Idx) (i' : C.s₀.Idx), (i 0).val = (h.sw x).toNat → (i' C.hg.axis).val = (h.gw x).toNat →
    (∀ b, b.val ≠ 0 → (i' b).val = (i 1).val) → C.dst.view.read (Elt F) h.ft i = C.src.view.read (Elt F) h.fs i'

variable {h} (ok : h.OK)

/-- The rows the gather's words name, entry by entry. -/
abbrev Held.OK.grows : Fin (S128x128.size C.hg.axis') → Fin (C.s₀.size C.hg.axis) := SparseCore.rows (F := F) h.gw rfl ok.hin
/-- The rows the scatter's words name, entry by entry. -/
abbrev Held.OK.srows : Fin (S128x128.size gathers_S262144x128_S128x128.axis') → Fin (S262144x128.size gathers_S262144x128_S128x128.axis) :=
  SparseCore.rows (F := F) h.sw rfl ok.hins
/-- What the gather brings. -/
def Held.OK.pay : S128x128.Idx → Elt F .f32 := SparseCore.gatherPayload (F := F) (e := .f32) C.hg (C.src.view.read (Elt F) h.fs) ok.grows
/-- The elements of the result under the named rows. -/
abbrev Held.OK.set : Finset (Idx (C.dst.view.loc (V d c s))) :=
  SparseCore.namedRows (V d c s) C.dst.view gathers_S262144x128_S128x128.axis ok.srows

theorem Held.OK.srows_injective : Function.Injective ok.srows := SparseCore.rows_injective ok.hinj

/-- Reading through a view recast to an equal shape is reading at the index with the same coordinates. -/
theorem read_cast_eq {sp : Space} {s₁ s₂ : Shape} {e : EltTy} (v : View sig .scVector sp s₁ e) (hs : s₁ = s₂) (f : v.ty.Contents (Elt F))
    (j : s₂.Idx) (x : s₁.Idx) (hx : ∀ (b : Fin s₁.rank) (b' : Fin s₂.rank), b.val = b'.val → (x b).val = (j b').val) :
    (v.cast hs rfl).read (Elt F) f j = v.read (Elt F) f x := by
  subst hs
  have : x = j := funext fun b => Fin.ext (hx b b rfl)
  rw [this]; rfl

/-- A slot holding what the gather brought, scattered, leaves the new contents on the named rows. -/
theorem Held.OK.scattered (fb : Buf (Elt F) (C.slot.view.loc (V d c s))) (hfb : C.slot.view.read (Elt F) fb = ok.pay) :
    ∀ i ∈ ok.set, SparseCore.scatterBuf (V d c s) C.dst.view gathers_S262144x128_S128x128.axis ok.srows
      (SparseCore.scatterRowPayload (V d c s) C.slot gathers_S262144x128_S128x128 fb) h.fo i = h.ft i := by
  intro i hi
  obtain ⟨k, -, hk⟩ := Finset.mem_biUnion.mp hi
  rw [SparseCore.scatterBuf_of_mem (V d c s) C.dst.view _ ok.srows ok.srows_injective _ _ hk]
  obtain ⟨j, rfl⟩ := View.exists_of_mem_set_slice hk
  refine View.eq_of_read_eq (v := C.dst.view.slice (S262144x128.rowRect gathers_S262144x128_S128x128.axis (ok.srows k))) (x := j) ?_
  refine (View.read_write_of_mem _ _ (Finset.mem_univ j)).trans ?_
  -- the source element: row `k` of the slot at `j`'s own lane
  let x : S128x128.Idx := fun (b : Fin 2) => match b with | 0 => k | 1 => j (1 : Fin 2)
  have hslot : SparseCore.scatterRowPayload (V d c s) C.slot gathers_S262144x128_S128x128 fb k j = C.slot.view.read (Elt F) fb x := by
    let y : (S128x128.rowShape gathers_S262144x128_S128x128.axis').Idx := fun (b : Fin 2) => match b with | 0 => ⟨0, Nat.one_pos⟩ | 1 => j (1 : Fin 2)
    refine (read_cast_eq (C.slot.view.slice (S128x128.rowRect gathers_S262144x128_S128x128.axis' k)) gathers_S262144x128_S128x128.rowShape_eq fb j y ?_).trans ?_
    · intro (b : Fin 2) (b' : Fin 2) hb
      obtain rfl : b = b' := Fin.ext hb
      match b with
      | 0 => have h0 : (j (0 : Fin 2)).val < 1 := (j (0 : Fin 2)).isLt
             exact (Nat.lt_one_iff.mp h0).symm
      | 1 => rfl
    · show C.slot.view.read (Elt F) fb ((S128x128.rowRect gathers_S262144x128_S128x128.axis' k).emb y) = _
      refine congrArg (C.slot.view.read (Elt F) fb) (funext fun (b : Fin 2) => Fin.ext ?_)
      refine (Shape.rowRect_emb_val _ _ _ _).trans ?_
      match b with
      | 0 => rfl
      | 1 => exact if_neg (by decide)
  refine hslot.trans ?_
  rw [hfb]
  refine (ok.htgt (S128.rowMajor.symm (Fin.cast (n := 128) rfl k)) _ _ ?_ ?_ ?_).symm
  · exact (Shape.rowRect_emb_val _ _ _ _).trans (if_pos rfl)
  · rw [Shape.Gathers.idx_axis]; rfl
  · intro b hb
    refine (Shape.Gathers.idx_of_ne _ _ _ _ hb).trans (Eq.trans ?_ (Shape.rowRect_emb_val _ _ _ _).symm)
    have hr : 2 = C.s₀.rank := C.hg.1
    have hb1 : b.val = 1 := by have := b.isLt; omega
    rw [show (b.cast C.hg.1.symm : Fin S128x128.rank) = (1 : Fin 2) from Fin.ext hb1]
    exact (if_neg (by decide)).symm

/-! ## The states -/

/-- The semaphores of the chunk's slot. -/
abbrev Chunk.gcell (C : Chunk) (d : Dev nD) (c : Fin τ.nSC) (s : Fin τ.nSub) : GSem nD τ sig := (V d c s, .dma C.gs)
abbrev Chunk.scell (C : Chunk) (d : Dev nD) (c : Fin τ.nSC) (s : Fin τ.nSub) : GSem nD τ sig := (V d c s, .dma C.ss)

abbrev srcPts (h : Held d c s F C) : sProp (MM F) := C.src.view.loc (V d c s) ↦[C.src.view.set]{h.qs} h.fs
abbrev glPts (h : Held d c s F C) : sProp (MM F) := C.gl.view.loc (V d c s) ↦[C.gl.view.set]{h.qg} h.fg
abbrev slPts (h : Held d c s F C) : sProp (MM F) := C.sl.view.loc (V d c s) ↦[C.sl.view.set]{h.ql} h.fl
abbrev Held.OK.dstPts (ok : h.OK) (f : Buf (Elt F) (C.dst.view.loc (V d c s))) : sProp (MM F) :=
  C.dst.view.loc (V d c s) ↦[ok.set]{fullShare} f
abbrev Chunk.slotPts (C : Chunk) (d : Dev nD) (c : Fin τ.nSC) (s : Fin τ.nSub) (f : Buf (Elt F) (C.slot.view.loc (V d c s))) : sProp (MM F) :=
  C.slot.view.loc (V d c s) ↦[C.slot.view.set]{fullShare} f

/-- Not begun, with the result's rows at `f`; at the new contents, done. -/
def Held.OK.At (ok : h.OK) (f : Buf (Elt F) (C.dst.view.loc (V d c s))) : sProp (MM F) :=
  iprop(srcPts h ∗ glPts h ∗ slPts h ∗ ok.dstPts f)
/-- The chunk's slot and its two semaphores, free. -/
def Chunk.Free (C : Chunk) (F : FTy → Type) (d : Dev nD) (c : Fin τ.nSC) (s : Fin τ.nSub) : sProp (MM F) :=
  iprop((∃ f, C.slotPts d c s f) ∗ semVal (C.gcell d c s) 0 ∗ semVal (C.scell d c s) 0)
/-- The gather on its way. -/
def Held.OK.GFl (ok : h.OK) : sProp (MM F) :=
  iprop((∃ fd, Transfers.Flight countersEmb (V d c s) (.dma C.gs) (default : HIx 1) C.slot.view.dmaCredit
        iprop(C.slotPts d c s (C.slot.view.write (Elt F) fd ok.pay Finset.univ) ∗ srcPts h ∗ glPts h))
      ∗ semVal (C.scell d c s) 0 ∗ slPts h ∗ ok.dstPts h.fo)
/-- The scatter on its way. -/
def Held.OK.SFl (ok : h.OK) : sProp (MM F) :=
  iprop((∃ fb, Transfers.Flight countersEmb (V d c s) (.dma C.ss) (default : HIx 1) C.slot.view.dmaCredit
        iprop(ok.dstPts h.ft ∗ C.slotPts d c s fb ∗ slPts h))
      ∗ semVal (C.gcell d c s) 0 ∗ srcPts h ∗ glPts h)

/-! ## The actions -/

/-- What a subcore owes, its recorded waits grown only by waits at the least level. -/
def Owes (F : FTy → Type) (d : Dev nD) (c : Fin τ.nSC) (s : Fin τ.nSub) (O : CellTallies nD τ sig (HIx 1)) (W : Waits sig (HIx 1)) : sProp (MM F) :=
  iprop(∃ W', ⌜∀ p ∈ W', p ∈ W ∨ p.2 = none⌝ ∗ owes (V d c s) O W')

variable [FloatOps F] {O : CellTallies nD τ sig (HIx 1)} {W : Waits sig (HIx 1)}
variable {k : PUnit → TP F c s} {Q : PUnit → sProp (MM F)}

/-- The weakest precondition of a task's program. -/
abbrev wpT (d : Dev nD) (c : Fin τ.nSC) (s : Fin τ.nSub) (p : TP F c s) (Q : PUnit → sProp (MM F)) : sProp (MM F) :=
  wp frame (wpE (defs₀ (F := F)) 𝒱₀ (V d c s) none) Set.univ p Q

/-- The gather: from a chunk not begun and its free slot. -/
theorem wp_gather (ok : h.OK) :
    iprop(ok.At h.fo ∗ C.Free F d c s) ⊢ iprop((ok.GFl -∗ wpT d c s (k ⟨⟩) Q) -∗ wpT d c s (C.gather >>= k) Q) := by
  unfold Held.OK.At Chunk.Free Held.OK.GFl
  iintro ⟨⟨Hs, Hg, Hl, Ho⟩, ⟨%fd, Hf⟩, Hgs, Hss⟩ Hk
  iapply (SparseCore.wp_indirectGatherLocal countersEmb 𝒱₀ (V d c s) none (hg := C.hg) (hr := C.hr) (default : HIx 1)
      C.slot.view.dmaCredit (SparseCore.sum_rowCredit_eq_dmaCredit C.slot C.hg.axis' (fun _ => rfl)) (by decide) ok.hin) $$ [Hs Hf Hg Hgs]
  · isplitl [Hs]; · iexact Hs
    isplitl [Hf]; · iexact Hf
    isplitl [Hg]; · iexact Hg
    iexact Hgs
  iintro Hfl
  iapply Hk
  isplitl [Hfl]; · iexists fd; iexact Hfl
  isplitl [Hss]; · iexact Hss
  isplitl [Hl]; · iexact Hl
  iexact Ho

/-- The wait for the gather, then the scatter. -/
theorem wp_scatter (ok : h.OK) :
    iprop(Transfers.MayWaits (V d c s) (default : HIx 1) O ∗ ok.GFl ∗ Owes F d c s O W)
      ⊢ iprop((iprop(ok.SFl ∗ Owes F d c s O W) -∗ wpT d c s (k ⟨⟩) Q)
        -∗ wpT d c s (C.waitGather >>= fun _ => C.scatter >>= k) Q) := by
  unfold Held.OK.GFl Held.OK.SFl Owes
  iintro ⟨#Hmw, ⟨⟨%fd, Hfl⟩, Hss, Hl, Ho⟩, ⟨%W', %hW', HO⟩⟩ Hk
  rw [show (C.waitGather (F := F) (c := c) (s := s) >>= fun _ => C.scatter >>= k)
    = .op (.waitDma2 C.gs C.src C.slot (View.wordExact_bits rfl) (View.wordExact_bits rfl)) (fun _ => C.scatter >>= k) from rfl]
  iapply (Transfers.wp_waitLocalO countersEmb 𝒱₀ (V d c s) none (default : HIx 1) (rfl : C.slot.view.dmaCredit = _)) $$ [Hfl HO]
  · isplitl [Hfl]; · iexact Hfl
    isplitl [HO]; · iexact HO
    iapply (Transfers.MayWaits.elim (SemLoc.dma C.gs)) $$ Hmw
  iintro ⟨⟨Hf, Hs, Hg⟩, Hgs, HO⟩
  iapply (SparseCore.wp_indirectScatterLocal countersEmb 𝒱₀ (V d c s) none (hr := by decide) (default : HIx 1)
      C.slot.view.dmaCredit (by decide) ok.hins (SparseCore.rows_injective ok.hinj)
      (SparseCore.sum_scatterCredit_eq_srcCredit (c := V d c s) C.slot C.dst gathers_S262144x128_S128x128 rfl _ (fun _ => rfl) (fun _ => rfl))) $$ [Hf Ho Hl Hss]
  · isplitl [Hf]; · iexact Hf
    isplitl [Ho]; · iexact Ho
    isplitl [Hl]; · iexact Hl
    iexact Hss
  iintro Hfl
  iapply Hk
  isplitr [HO]
  · isplitl [Hfl]
    · iexists (C.slot.view.write (Elt F) fd ok.pay Finset.univ)
      ihave H := (Entails.of_eq (congrArg (fun X => Transfers.Flight countersEmb (V d c s) (.dma C.ss) (default : HIx 1) C.slot.view.dmaCredit
        iprop(X ∗ C.slotPts d c s (C.slot.view.write (Elt F) fd ok.pay Finset.univ) ∗ slPts h))
        (pointsTo_congr (q := fullShare) (ok.scattered (C.slot.view.write (Elt F) fd ok.pay Finset.univ)
          (funext fun x => View.read_write_of_mem _ _ (Finset.mem_univ x)))))) $$ Hfl
      iexact H
    isplitl [Hgs]; · iexact Hgs
    isplitl [Hs]; · iexact Hs
    iexact Hg
  · iexists _; isplitr
    swap; · iexact HO
    ipureintro; intro p hp
    rcases Finset.mem_insert.mp hp with hp | hp
    · exact .inr (hp ▸ rfl)
    · exact hW' p hp

/-- The wait for the scatter: the chunk done, its slot free. -/
theorem wp_waitScatter (ok : h.OK) :
    iprop(Transfers.MayWaits (V d c s) (default : HIx 1) O ∗ ok.SFl ∗ Owes F d c s O W)
      ⊢ iprop((iprop(ok.At h.ft ∗ C.Free F d c s ∗ Owes F d c s O W) -∗ wpT d c s (k ⟨⟩) Q)
        -∗ wpT d c s (C.waitScatter >>= k) Q) := by
  unfold Held.OK.At Held.OK.SFl Owes Chunk.Free
  iintro ⟨#Hmw, ⟨⟨%fb, Hfl⟩, Hgs, Hs, Hg⟩, ⟨%W', %hW', HO⟩⟩ Hk
  rw [show (C.waitScatter (F := F) (c := c) (s := s) >>= k)
    = .op (.waitDma2 C.ss C.dst C.slot (View.wordExact_bits rfl) (View.wordExact_bits rfl)) k from rfl]
  iapply (Transfers.wp_waitLocalO countersEmb 𝒱₀ (V d c s) none (default : HIx 1) (rfl : C.slot.view.dmaCredit = _)) $$ [Hfl HO]
  · isplitl [Hfl]; · iexact Hfl
    isplitl [HO]; · iexact HO
    iapply (Transfers.MayWaits.elim (SemLoc.dma C.ss)) $$ Hmw
  iintro ⟨⟨Ho, Hf, Hl⟩, Hss, HO⟩
  iapply Hk
  isplitl [Hs Hg Hl Ho]
  · isplitl [Hs]; · iexact Hs
    isplitl [Hg]; · iexact Hg
    isplitl [Hl]; · iexact Hl
    iexact Ho
  isplitl [Hf Hgs Hss]
  · isplitl [Hf]; · iexists fb; iexact Hf
    isplitl [Hgs]; · iexact Hgs
    iexact Hss
  iexists _; isplitr
  swap; · iexact HO
  ipureintro; intro p hp
  rcases Finset.mem_insert.mp hp with hp | hp
  · exact .inr (hp ▸ rfl)
  · exact hW' p hp

end Chunks

end Cert.Proof.Fill

end
-- ==== Proof.Ring.lean ====
/-
  The schedule. A tile's state is which chunks are done, which have their scatter on its way, which their gather, which are not
  begun, and which slots are free; every action moves one chunk (the rules of Steps), and the schedule's actions, from all chunks
  not begun and six free slots, end with all chunks done and six free slots.
-/
module

public import proofs.«01_k».proof.Proof.Steps

@[expose] public section

noncomputable section

namespace Cert.Proof.Fill

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {d : Dev nD} {c : Fin τ.nSC} {s : Fin τ.nSub}

/-- Slot `q` of the ring and its two semaphores, free. -/
def FreeSlot (F : FTy → Type) (d : Dev nD) (c : Fin τ.nSC) (s : Fin τ.nSub) (q : Fin 6) : sProp (MM F) :=
  iprop((∃ f, (slotOf q).view.loc (V d c s) ↦[(slotOf q).view.set]{fullShare} f)
    ∗ semVal ((V d c s, .dma (gsem q)) : GSem nD τ sig) 0 ∗ semVal ((V d c s, .dma (ssem q)) : GSem nD τ sig) 0)

/-- A chunk's slot free is that slot free, whatever the chunk's group and row. -/
theorem free_chunkAt (g : Fin 4) (r : Fin 32) (q : Fin 6) : (chunkAt g r q).Free F d c s = FreeSlot F d c s q := by
  match g with
  | 0 => rfl
  | 1 => rfl
  | 2 => rfl
  | 3 => rfl
theorem free_chunk (j : ℕ) : (chunk j).Free F d c s = FreeSlot F d c s (slotIx j) := free_chunkAt _ _ _
theorem slotIx_add (j : ℕ) : slotIx (j + 6) = slotIx j := Fin.ext (by simp [slotIx, Fin.ofNat])

variable {h : ∀ j, Held d c s F (chunk j)} (ok : ∀ j, (h j).OK) (O : CellTallies nD τ sig (HIx 1)) (W : Waits sig (HIx 1))

/-- A tile's state: the chunks of `P` done, those of `S` with the scatter on its way, those of `G` with the gather on its way, those
    of `A` not begun; the slots of the chunks of `E` free. -/
def St (P S G A E : Finset ℕ) : sProp (MM F) :=
  iprop(Transfers.MayWaits (V d c s) (default : HIx 1) O
    ∗ (bigSep P fun j => (ok j).At (h j).ft) ∗ (bigSep S fun j => (ok j).SFl) ∗ (bigSep G fun j => (ok j).GFl)
    ∗ (bigSep A fun j => (ok j).At (h j).fo) ∗ (bigSep E fun j => FreeSlot F d c s (slotIx j)) ∗ Owes F d c s O W)

variable [FloatOps F] {Q : PUnit → sProp (MM F)} {P S G A E : Finset ℕ} {l : List Act} {j : ℕ}

/-- A gather begins a chunk not begun, in its free slot. -/
theorem st_G (hA : j ∈ A) (hE : j ∈ E) (hG : j ∉ G) (next : St ok O W P S (insert j G) (A.erase j) (E.erase j) ⊢ wpT d c s (run l) Q) :
    St ok O W P S G A E ⊢ wpT d c s (run (.G j :: l)) Q := by
  unfold St at next ⊢
  rw [SparseCore.bigSep_insert' hG] at next
  rw [SparseCore.bigSep_erase' hA, SparseCore.bigSep_erase' hE, ← free_chunk (F := F) (d := d) (c := c) (s := s) j]
  iintro ⟨#Hmw, HP, HS, HG, ⟨Hj, HA⟩, ⟨Hf, HE⟩, HO⟩
  iapply (wp_gather (k := fun _ => run l) (ok j)) $$ [Hj Hf]
  · isplitl [Hj] <;> iassumption
  iintro Hj
  iapply next
  isplitr; · iexact Hmw
  isplitl [HP]; · iexact HP
  isplitl [HS]; · iexact HS
  isplitl [Hj HG]; · isplitl [Hj] <;> iassumption
  isplitl [HA]; · iexact HA
  isplitl [HE]; · iexact HE
  iexact HO

/-- A wait for a gather and the scatter after it. -/
theorem st_S (hG : j ∈ G) (hS : j ∉ S) (next : St ok O W P (insert j S) (G.erase j) A E ⊢ wpT d c s (run l) Q) :
    St ok O W P S G A E ⊢ wpT d c s (run (.WG j :: .S j :: l)) Q := by
  unfold St at next ⊢
  rw [SparseCore.bigSep_insert' hS] at next
  rw [SparseCore.bigSep_erase' hG]
  iintro ⟨#Hmw, HP, HS, ⟨Hj, HG⟩, HA, HE, HO⟩
  iapply (wp_scatter (k := fun _ => run l) (ok j) (O := O) (W := W)) $$ [Hj HO]
  · isplitr; · iexact Hmw
    isplitl [Hj] <;> iassumption
  iintro ⟨Hj, HO⟩
  iapply next
  isplitr; · iexact Hmw
  isplitl [HP]; · iexact HP
  isplitl [Hj HS]; · isplitl [Hj] <;> iassumption
  isplitl [HG]; · iexact HG
  isplitl [HA]; · iexact HA
  isplitl [HE]; · iexact HE
  iexact HO

/-- A wait for a scatter: the chunk done, its slot free for the chunk six after it. -/
theorem st_WS (hS : j ∈ S) (hP : j ∉ P) (hE : j + 6 ∉ E) (next : St ok O W (insert j P) (S.erase j) G A (insert (j + 6) E) ⊢ wpT d c s (run l) Q) :
    St ok O W P S G A E ⊢ wpT d c s (run (.WS j :: l)) Q := by
  unfold St at next ⊢
  rw [SparseCore.bigSep_insert' hP, SparseCore.bigSep_insert' hE, slotIx_add, ← free_chunk (F := F) (d := d) (c := c) (s := s) j] at next
  rw [SparseCore.bigSep_erase' hS]
  iintro ⟨#Hmw, HP, ⟨Hj, HS⟩, HG, HA, HE, HO⟩
  iapply (wp_waitScatter (k := fun _ => run l) (ok j) (O := O) (W := W)) $$ [Hj HO]
  · isplitr; · iexact Hmw
    isplitl [Hj] <;> iassumption
  iintro ⟨Hj, Hf, HO⟩
  iapply next
  isplitr; · iexact Hmw
  isplitl [Hj HP]; · isplitl [Hj] <;> iassumption
  isplitl [HS]; · iexact HS
  isplitl [HG]; · iexact HG
  isplitl [HA]; · iexact HA
  isplitl [Hf HE]; · isplitl [Hf] <;> iassumption
  iexact HO

/-- The state with chunks below `w` done, below `v` scattered, below `g` gathered. -/
abbrev At (w v g : ℕ) : sProp (MM F) :=
  St ok O W (Finset.Ico 0 w) (Finset.Ico w v) (Finset.Ico v g) (Finset.Ico g 128) (Finset.Ico g (w + 6))

/-- Six scatters on their way, awaited in the order of the program's last lines. -/
theorem st_tail (fin : At ok O W 128 128 128 ⊢ Q ⟨⟩) : At ok O W 122 127 128 ⊢ wpT d c s (run tailActs) Q := by
  refine st_S ok O W (by decide) (by decide) ?_
  refine st_WS ok O W (by decide) (by decide) (by decide) ?_
  refine st_WS ok O W (by decide) (by decide) (by decide) ?_
  refine st_WS ok O W (by decide) (by decide) (by decide) ?_
  refine st_WS ok O W (by decide) (by decide) (by decide) ?_
  refine st_WS ok O W (by decide) (by decide) (by decide) ?_
  refine st_WS ok O W (by decide) (by decide) (by decide) ?_
  refine Entails.trans (Entails.of_eq ?_) (fin.trans fupd_intro)
  congr 1 <;> (ext x; simp; try omega)

/-- From step `m` on. -/
theorem st_steps (fin : At ok O W 128 128 128 ⊢ Q ⟨⟩) :
    ∀ k m : ℕ, m + k = 128 → At ok O W (m - 6) (m - 1) m ⊢ wpT d c s (run (steps tailActs k m)) Q := by
  intro k
  induction k with
  | zero => intro m hm; obtain rfl : m = 128 := hm; exact st_tail ok O W fin
  | succ k ih =>
    intro m hm
    have next := ih (m + 1) (by omega)
    -- the gather and what stands after it, from the state with a slot free
    have gather : At ok O W (m + 1 - 6) (m - 1) m ⊢ wpT d c s (run (.G m :: (after m ++ steps tailActs k (m + 1)))) Q := by
      refine st_G ok O W (by simp; omega) (by simp; omega) (by simp) ?_
      cases m with
      | zero => refine Entails.trans (Entails.of_eq ?_) next; congr 1
      | succ n =>
        refine st_S ok O W (by simp) (by simp) ?_
        refine Entails.trans (Entails.of_eq ?_) next
        congr 1 <;> (ext x; simp; try omega)
    match m, hm, gather with
    | 0, _, gather | 1, _, gather | 2, _, gather | 3, _, gather | 4, _, gather | 5, _, gather => exact gather
    | n + 6, _, gather =>
      refine st_WS ok O W (by simp) (by simp) (by simp) ?_
      refine Entails.trans (Entails.of_eq ?_) gather
      congr 1 <;> (ext x; simp; try omega)

/-- The whole schedule: from all chunks not begun and six free slots, to all chunks done and six free slots. -/
theorem st_sched (fin : At ok O W 128 128 128 ⊢ Q ⟨⟩) : At ok O W 0 0 0 ⊢ wpT d c s (run sched) Q :=
  st_steps ok O W fin 128 0 rfl

end Cert.Proof.Fill

end
-- ==== Proof.Chunks.lean ====
/-
  What a tile holds, chunk by chunk. Tile `w` moves the rows its entries of the three index tables name: chunk `(g, r)` takes row `r`
  of its group's tables. The sources are held at a share, one piece per chunk; of the tables in scratch each group holds its part; of
  the results each chunk holds exactly the rows its scatter words name.
-/
module

public import proofs.«01_k».proof.Proof.Ring
public import Idealize.ShloMosaic.Lib.ValueIdx
public import Idealize.ShloMosaic.Lib.ValueLayout

@[expose] public section

noncomputable section

namespace Cert.Proof.Fill

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {d : Dev nD} {c : Fin τ.nSC} {s : Fin τ.nSub}

/-! ## The arrays -/

/-- The contents of the call's arrays: the three index tables, the four sources, the two results before and after. -/
structure Arrays (F : FTy → Type) where
  wg : S32x32x128.Idx → Elt F .i32
  wo : S32x32x128.Idx → Elt F .i32
  pa : S32x32x128.Idx → Elt F .i32
  kv : S131072x128.Idx → Elt F .f32
  vv : S131072x128.Idx → Elt F .f32
  kc : S262144x128.Idx → Elt F .f32
  vc : S262144x128.Idx → Elt F .f32
  ko : S262144x128.Idx → Elt F .f32
  vo : S262144x128.Idx → Elt F .f32
  tk : S262144x128.Idx → Elt F .f32
  tv : S262144x128.Idx → Elt F .f32

variable (A : Arrays F)

/-- The tables of scatter words: the written rows', and the untouched rows'. -/
def Arrays.tgt (k : Fin 2) : S32x32x128.Idx → Elt F .i32 :=
  match k with
  | 0 => A.wo
  | 1 => A.pa

/-- The words name rows, the scatter words each a row of its own, and the new results hold the rows named. -/
structure Arrays.OK : Prop where
  wg_lt : ∀ x, (A.wg x).toNat < 131072
  tgt_lt : ∀ k x, (A.tgt k x).toNat < 262144
  tgt_inj : Function.Injective fun p : Fin 2 × S32x32x128.Idx => (A.tgt p.1 p.2).toNat
  tk_w : ∀ (x : S32x32x128.Idx) (i : S262144x128.Idx) (i' : S131072x128.Idx), (i 0).val = (A.wo x).toNat → (i' 0).val = (A.wg x).toNat →
    (i' 1).val = (i 1).val → A.tk i = A.kv i'
  tk_p : ∀ (x : S32x32x128.Idx) (i : S262144x128.Idx), (i 0).val = (A.pa x).toNat → A.tk i = A.kc i
  tv_w : ∀ (x : S32x32x128.Idx) (i : S262144x128.Idx) (i' : S131072x128.Idx), (i 0).val = (A.wo x).toNat → (i' 0).val = (A.wg x).toNat →
    (i' 1).val = (i 1).val → A.tv i = A.vv i'
  tv_p : ∀ (x : S32x32x128.Idx) (i : S262144x128.Idx), (i 0).val = (A.pa x).toNat → A.tv i = A.vc i

/-- Tile `w`'s part of an index table. -/
def tabAt (f : S32x32x128.Idx → Elt F .i32) (w : Fin 32) : S32x128.Idx → Elt F .i32 := fun i => f (ix3 w (i 0) (i 1))

/-! ## Reading and covering through the views -/

/-- A row of a table reads the table at that row. -/
theorem read_rowOf (M : Memref sig .scVector .vmem S32x128 .i32) (r : Fin 32) (f : M.view.ty.Contents (Elt F)) (x : S128.Idx) :
    (rowOf M r).view.read (Elt F) f x = M.view.read (Elt F) f (ix2 r (x 0)) := by
  have e : Shape.reshapeEquiv (s := S1x128) (s' := S128) (by decide) x = (ix2 (0 : Fin 1) (x 0 : Fin 128) : S1x128.Idx) :=
    Shape.reshapeEquiv_eq_of_rowMajor _ (by
      rw [Shape.rowMajor_val_two, Shape.rowMajor_val_one]
      show 0 * _ + (x 0).val = (x 0).val
      omega)
  show M.view.read (Elt F) f ((Rect.unit (s := S32x128) ![r.val, 0] S1x128.size (inb_row r)).emb (Shape.reshapeEquiv (s := S1x128) (s' := S128) (by decide) x)) = _
  rw [e]
  refine congrArg (M.view.read (Elt F) f) (funext fun (b : Fin 2) => Fin.ext ?_)
  match b with
  | 0 => show r.val + 1 * 0 = r.val; omega
  | 1 => show 0 + 1 * (x 0).val = (x 0).val; omega

theorem emb_allA (i : S131072x128.Idx) : (Rect.unit (s := S131072x128) ![0, 0] S131072x128.size inb_S131072x128_S131072x128_0_0).emb i = i :=
  funext fun (b : Fin 2) => Fin.ext (match b with
    | 0 => show 0 + 1 * (i 0).val = (i 0).val by omega
    | 1 => show 0 + 1 * (i 1).val = (i 1).val by omega)
theorem emb_allB (i : S262144x128.Idx) : (Rect.unit (s := S262144x128) ![0, 0] S262144x128.size inb_S262144x128_S262144x128_0_0).emb i = i :=
  funext fun (b : Fin 2) => Fin.ext (match b with
    | 0 => show 0 + 1 * (i 0).val = (i 0).val by omega
    | 1 => show 0 + 1 * (i 1).val = (i 1).val by omega)

/-- All of an array reads the array. -/
theorem read_allA (M : Memref sig .scVector .hbm S131072x128 .f32) (f : M.view.ty.Contents (Elt F)) (i : S131072x128.Idx) :
    (allA M).view.read (Elt F) f i = M.view.read (Elt F) f i := congrArg (M.view.read (Elt F) f) (emb_allA i)
theorem read_allB (M : Memref sig .scVector .hbm S262144x128 .f32) (f : M.view.ty.Contents (Elt F)) (i : S262144x128.Idx) :
    (allB M).view.read (Elt F) f i = M.view.read (Elt F) f i := congrArg (M.view.read (Elt F) f) (emb_allB i)

/-- All of an array covers the array. -/
theorem set_allA (M : Memref sig .scVector .hbm S131072x128 .f32) : (allA M).view.set = M.view.set := by
  show (M.view.slice _).set = _
  rw [View.set_slice, ← Rect.map_emb_univ, Finset.map_map]
  exact congrArg (fun g : S131072x128.Idx ↪ _ => Finset.univ.map g) (Function.Embedding.ext fun i => congrArg M.view.emb (emb_allA i))
theorem set_allB (M : Memref sig .scVector .hbm S262144x128 .f32) : (allB M).view.set = M.view.set := by
  show (M.view.slice _).set = _
  rw [View.set_slice, ← Rect.map_emb_univ, Finset.map_map]
  exact congrArg (fun g : S262144x128.Idx ↪ _ => Finset.univ.map g) (Function.Embedding.ext fun i => congrArg M.view.emb (emb_allB i))

/-! ## A chunk's holding -/

/-- The rows of a result that chunk `r` of tile `w` scatters to by table `k`. -/
def outSet (k : Fin 2) (w r : Fin 32) : Finset S262144x128.Idx :=
  Finset.univ.filter fun i => ∃ x : Fin 128, (i 0).val = (A.tgt k (ix3 w r x)).toNat
/-- The elements of row `r` of a table. -/
def tabSet (r : Fin 32) : Finset S32x128.Idx := Finset.univ.filter fun i => (i 0).val = r.val

/-- What tile `w` holds for chunk `(g, r)`. -/
def held (w : Fin 32) (q₀ : PosShare TreeShare) (g : Fin 4) (r : Fin 32) (q : Fin 6) : Held d c s F (chunkAt g r q) :=
  match g with
  | 0 => ⟨pieceOf q₀ 32 (by decide) r, fullShare.left, fullShare.left, A.kv, tabAt A.wg w, tabAt A.wo w, A.ko, A.tk⟩
  | 1 => ⟨pieceOf q₀ 32 (by decide) r, fullShare.left.left, fullShare.left.right, A.kc, tabAt A.pa w, tabAt A.pa w, A.ko, A.tk⟩
  | 2 => ⟨pieceOf q₀ 32 (by decide) r, fullShare.right, fullShare.right, A.vv, tabAt A.wg w, tabAt A.wo w, A.vo, A.tv⟩
  | 3 => ⟨pieceOf q₀ 32 (by decide) r, fullShare.right.left, fullShare.right.right, A.vc, tabAt A.pa w, tabAt A.pa w, A.vo, A.tv⟩

variable {A} (hA : A.OK)

include hA in
/-- The scatter words of a chunk are pairwise distinct. -/
theorem tgt_row_inj (k : Fin 2) (w r : Fin 32) : Function.Injective fun x : S128.Idx => (A.tgt k (ix3 w r (x 0))).toNat := by
  intro x y h
  have := hA.tgt_inj (a₁ := (k, ix3 w r (x 0))) (a₂ := (k, ix3 w r (y 0))) h
  have h2 := congrArg (fun p : Fin 2 × S32x32x128.Idx => p.2 2) this
  rw [eq_ix1 x, eq_ix1 y]; exact congrArg ix1 h2

include hA in
/-- The holding of a chunk is in order: its words name rows, and the new contents hold the rows named. -/
theorem held_ok (w : Fin 32) (q₀ : PosShare TreeShare) (g : Fin 4) (r : Fin 32) (q : Fin 6) :
    (held (d := d) (c := c) (s := s) A w q₀ g r q).OK := by
  match g with
  | 0 =>
    have gw (x : S128.Idx) : (held (d := d) (c := c) (s := s) A w q₀ 0 r q).gw x = A.wg (ix3 w r (x 0)) := read_rowOf gixV r _ x
    have sw (x : S128.Idx) : (held (d := d) (c := c) (s := s) A w q₀ 0 r q).sw x = A.wo (ix3 w r (x 0)) := read_rowOf oixV r _ x
    refine ⟨fun x => ?_, fun x => ?_, ?_, fun x i i' hi hi' hb => ?_⟩
    · rw [gw]; exact hA.wg_lt _
    · rw [sw]; exact hA.tgt_lt 0 _
    · rw [show (fun x => ((held (d := d) (c := c) (s := s) A w q₀ 0 r q).sw x).toNat) = fun x => (A.tgt 0 (ix3 w r (x 0))).toNat from funext fun x => congrArg _ (sw x)]
      exact tgt_row_inj hA 0 w r
    · rw [sw] at hi; rw [gw] at hi'
      refine (read_allB koV _ i).trans (Eq.trans ?_ (read_allA kvV _ i').symm)
      exact hA.tk_w _ i i' hi hi' (hb (1 : Fin 2) Nat.one_ne_zero)
  | 1 =>
    have gw (x : S128.Idx) : (held (d := d) (c := c) (s := s) A w q₀ 1 r q).gw x = A.pa (ix3 w r (x 0)) := read_rowOf pixV r _ x
    refine ⟨fun x => ?_, fun x => ?_, ?_, fun x i i' hi hi' hb => ?_⟩
    · rw [gw]; exact hA.tgt_lt 1 _
    · exact (congrArg BitVec.toNat (gw x)).trans_lt (hA.tgt_lt 1 _)
    · rw [show (fun x => ((held (d := d) (c := c) (s := s) A w q₀ 1 r q).sw x).toNat) = fun x => (A.tgt 1 (ix3 w r (x 0))).toNat from funext fun x => congrArg _ (gw x)]
      exact tgt_row_inj hA 1 w r
    · replace hi := hi.trans (congrArg BitVec.toNat (gw x)); rw [gw] at hi'
      obtain rfl : i = i' := funext fun (b : Fin 2) => Fin.ext (match b with | 0 => hi.trans hi'.symm | 1 => (hb (1 : Fin 2) Nat.one_ne_zero).symm)
      refine (read_allB koV _ i).trans (Eq.trans ?_ (read_allB kcV _ i).symm)
      exact hA.tk_p _ i hi
  | 2 =>
    have gw (x : S128.Idx) : (held (d := d) (c := c) (s := s) A w q₀ 2 r q).gw x = A.wg (ix3 w r (x 0)) := read_rowOf gixV r _ x
    have sw (x : S128.Idx) : (held (d := d) (c := c) (s := s) A w q₀ 2 r q).sw x = A.wo (ix3 w r (x 0)) := read_rowOf oixV r _ x
    refine ⟨fun x => ?_, fun x => ?_, ?_, fun x i i' hi hi' hb => ?_⟩
    · rw [gw]; exact hA.wg_lt _
    · rw [sw]; exact hA.tgt_lt 0 _
    · rw [show (fun x => ((held (d := d) (c := c) (s := s) A w q₀ 2 r q).sw x).toNat) = fun x => (A.tgt 0 (ix3 w r (x 0))).toNat from funext fun x => congrArg _ (sw x)]
      exact tgt_row_inj hA 0 w r
    · rw [sw] at hi; rw [gw] at hi'
      refine (read_allB voV _ i).trans (Eq.trans ?_ (read_allA vvV _ i').symm)
      exact hA.tv_w _ i i' hi hi' (hb (1 : Fin 2) Nat.one_ne_zero)
  | 3 =>
    have gw (x : S128.Idx) : (held (d := d) (c := c) (s := s) A w q₀ 3 r q).gw x = A.pa (ix3 w r (x 0)) := read_rowOf pixV r _ x
    refine ⟨fun x => ?_, fun x => ?_, ?_, fun x i i' hi hi' hb => ?_⟩
    · rw [gw]; exact hA.tgt_lt 1 _
    · exact (congrArg BitVec.toNat (gw x)).trans_lt (hA.tgt_lt 1 _)
    · rw [show (fun x => ((held (d := d) (c := c) (s := s) A w q₀ 3 r q).sw x).toNat) = fun x => (A.tgt 1 (ix3 w r (x 0))).toNat from funext fun x => congrArg _ (gw x)]
      exact tgt_row_inj hA 1 w r
    · replace hi := hi.trans (congrArg BitVec.toNat (gw x)); rw [gw] at hi'
      obtain rfl : i = i' := funext fun (b : Fin 2) => Fin.ext (match b with | 0 => hi.trans hi'.symm | 1 => (hb (1 : Fin 2) Nat.one_ne_zero).symm)
      refine (read_allB voV _ i).trans (Eq.trans ?_ (read_allB vcV _ i).symm)
      exact hA.tv_p _ i hi

/-! ## The sets of elements -/

/-- A row of a table covers that row's elements. -/
theorem set_rowOf (M : Memref sig .scVector .vmem S32x128 .i32) (r : Fin 32) : (rowOf M r).view.set = (tabSet r).map M.view.emb := by
  refine (View.set_reshape _ _).trans ((View.set_slice _ _).trans (congrArg (fun S : Finset S32x128.Idx => S.map M.view.emb) ?_))
  ext i
  rw [Rect.mem_set_unit, tabSet, Finset.mem_filter]
  constructor
  · intro h; have := h (0 : Fin 2); exact ⟨Finset.mem_univ _, by
      have h1 : r.val ≤ (i 0).val := this.1
      have h2 : (i 0).val < r.val + 1 := this.2
      omega⟩
  · rintro ⟨-, h⟩ (b : Fin 2)
    match b with
    | 0 => exact ⟨(show r.val ≤ (i 0).val by omega), (show (i 0).val < r.val + 1 by omega)⟩
    | 1 => exact ⟨Nat.zero_le _, (show (i 1).val < 0 + 128 by have := (i 1).isLt; change (i 1).val < 128 at this; omega)⟩

/-- The rows a chunk's scatter words name. -/
theorem set_named (M : Memref sig .scVector .hbm S262144x128 .f32) (rows : Fin (S128x128.size gathers_S262144x128_S128x128.axis') → Fin (S262144x128.size gathers_S262144x128_S128x128.axis))
    (T : Finset S262144x128.Idx) (hT : ∀ i : S262144x128.Idx, i ∈ T ↔ ∃ k, (i 0).val = (rows k).val) :
    SparseCore.namedRows (V d c s) (allB M).view gathers_S262144x128_S128x128.axis rows = T.map M.view.emb := by
  ext y
  rw [SparseCore.namedRows, Finset.mem_biUnion, Finset.mem_map]
  constructor
  · rintro ⟨k, -, hk⟩
    obtain ⟨j, rfl⟩ := View.exists_of_mem_set_slice hk
    refine ⟨(S262144x128.rowRect gathers_S262144x128_S128x128.axis (rows k)).emb j, (hT _).mpr ⟨k, ?_⟩, ?_⟩
    · exact (Shape.rowRect_emb_val _ _ _ _).trans (if_pos rfl)
    · exact (congrArg M.view.emb (emb_allB _)).symm
  · rintro ⟨i, hi, rfl⟩
    obtain ⟨k, hk⟩ := (hT i).mp hi
    refine ⟨k, Finset.mem_univ _, ?_⟩
    rw [View.set_slice, Finset.mem_map]
    refine ⟨i, ?_, congrArg M.view.emb (emb_allB i)⟩
    rw [← Rect.map_emb_univ, Finset.mem_map]
    refine ⟨(fun (b : Fin 2) => match b with | 0 => ⟨0, Nat.one_pos⟩ | 1 => i (1 : Fin 2)), Finset.mem_univ _, ?_⟩
    refine funext fun (b : Fin 2) => Fin.ext ((Shape.rowRect_emb_val _ _ _ _).trans ?_)
    match b with
    | 0 => exact hk.symm
    | 1 => exact if_neg (by decide)

/-! ## The pieces -/

variable (A)

/-- The results' contents, before and after. -/
def Arrays.k (new : Bool) : S262144x128.Idx → Elt F .f32 := bif new then A.tk else A.ko
def Arrays.v (new : Bool) : S262144x128.Idx → Elt F .f32 := bif new then A.tv else A.vo

abbrev kvP (d : Dev nD) (c : Fin τ.nSC) (s : Fin τ.nSub) (q : PosShare TreeShare) : sProp (MM F) := kvV.view.loc (V d c s) ↦[Finset.univ]{q} A.kv
abbrev kcP (d : Dev nD) (c : Fin τ.nSC) (s : Fin τ.nSub) (q : PosShare TreeShare) : sProp (MM F) := kcV.view.loc (V d c s) ↦[Finset.univ]{q} A.kc
abbrev vvP (d : Dev nD) (c : Fin τ.nSC) (s : Fin τ.nSub) (q : PosShare TreeShare) : sProp (MM F) := vvV.view.loc (V d c s) ↦[Finset.univ]{q} A.vv
abbrev vcP (d : Dev nD) (c : Fin τ.nSC) (s : Fin τ.nSub) (q : PosShare TreeShare) : sProp (MM F) := vcV.view.loc (V d c s) ↦[Finset.univ]{q} A.vc
abbrev gixP (d : Dev nD) (c : Fin τ.nSC) (s : Fin τ.nSub) (w : Fin 32) (S : Finset S32x128.Idx) (q : PosShare TreeShare) : sProp (MM F) := gixV.view.loc (V d c s) ↦[S]{q} tabAt A.wg w
abbrev oixP (d : Dev nD) (c : Fin τ.nSC) (s : Fin τ.nSub) (w : Fin 32) (S : Finset S32x128.Idx) (q : PosShare TreeShare) : sProp (MM F) := oixV.view.loc (V d c s) ↦[S]{q} tabAt A.wo w
abbrev pixP (d : Dev nD) (c : Fin τ.nSC) (s : Fin τ.nSub) (w : Fin 32) (S : Finset S32x128.Idx) (q : PosShare TreeShare) : sProp (MM F) := pixV.view.loc (V d c s) ↦[S]{q} tabAt A.pa w
/-- Chunk `r`'s rows of the first result by table `k`; of the second. -/
abbrev koP (d : Dev nD) (c : Fin τ.nSC) (s : Fin τ.nSub) (w : Fin 32) (new : Bool) (k : Fin 2) (r : Fin 32) : sProp (MM F) := koV.view.loc (V d c s) ↦[outSet A k w r]{fullShare} A.k new
abbrev voP (d : Dev nD) (c : Fin τ.nSC) (s : Fin τ.nSub) (w : Fin 32) (new : Bool) (k : Fin 2) (r : Fin 32) : sProp (MM F) := voV.view.loc (V d c s) ↦[outSet A k w r]{fullShare} A.v new

/-- What is held for chunk `(g, r)`, in the arrays' own terms. -/
def piece (d : Dev nD) (c : Fin τ.nSC) (s : Fin τ.nSub) (w : Fin 32) (q₀ : PosShare TreeShare) (new : Bool) (g : Fin 4) (r : Fin 32) : sProp (MM F) :=
  match g with
  | 0 => iprop(kvP A d c s (pieceOf q₀ 32 (by decide) r) ∗ gixP A d c s w (tabSet r) fullShare.left ∗ oixP A d c s w (tabSet r) fullShare.left ∗ koP A d c s w new 0 r)
  | 1 => iprop(kcP A d c s (pieceOf q₀ 32 (by decide) r) ∗ pixP A d c s w (tabSet r) fullShare.left.left ∗ pixP A d c s w (tabSet r) fullShare.left.right ∗ koP A d c s w new 1 r)
  | 2 => iprop(vvP A d c s (pieceOf q₀ 32 (by decide) r) ∗ gixP A d c s w (tabSet r) fullShare.right ∗ oixP A d c s w (tabSet r) fullShare.right ∗ voP A d c s w new 0 r)
  | 3 => iprop(vcP A d c s (pieceOf q₀ 32 (by decide) r) ∗ pixP A d c s w (tabSet r) fullShare.right.left ∗ pixP A d c s w (tabSet r) fullShare.right.right ∗ voP A d c s w new 1 r)

theorem sep4_congr {a a' b b' e e' f f' : sProp (MM F)} (ha : a = a') (hb : b = b') (he : e = e') (hf : f = f') :
    iprop(a ∗ b ∗ e ∗ f) = iprop(a' ∗ b' ∗ e' ∗ f') := by rw [ha, hb, he, hf]

variable {A}

theorem at_piece (w : Fin 32) (q₀ : PosShare TreeShare) (new : Bool) (g : Fin 4) (r : Fin 32) (q : Fin 6) :
    (held_ok (d := d) (c := c) (s := s) hA w q₀ g r q).At (bif new then (held A w q₀ g r q).ft else (held A w q₀ g r q).fo)
      = piece A d c s w q₀ new g r := by
  have tab (M : Memref sig .scVector .vmem S32x128 .i32) := set_rowOf M r
  have e131 : ∀ S : Finset S131072x128.Idx, S.map (Function.Embedding.refl _) = S := fun S => Finset.map_refl
  have e262 : ∀ S : Finset S262144x128.Idx, S.map (Function.Embedding.refl _) = S := fun S => Finset.map_refl
  have etab : ∀ S : Finset S32x128.Idx, S.map (Function.Embedding.refl _) = S := fun S => Finset.map_refl
  have rowK (k : Fin 2) (i : S262144x128.Idx) (rows : Fin 128 → Fin 262144) (hr : ∀ k', (rows k').val = (A.tgt k (ix3 w r ((S128.rowMajor.symm (Fin.cast (n := 128) rfl k')) 0))).toNat) :
      i ∈ outSet A k w r ↔ ∃ k', (i 0).val = (rows k').val := by
    rw [outSet, Finset.mem_filter]
    constructor
    · rintro ⟨-, x, hx⟩
      refine ⟨Fin.cast rfl (S128.rowMajor (ix1 x)), ?_⟩
      rw [hr]
      refine hx.trans ?_
      congr 3
      exact congrArg (fun z : S128.Idx => z 0) (S128.rowMajor.symm_apply_apply (ix1 x)).symm
    · rintro ⟨k', hk⟩
      exact ⟨Finset.mem_univ _, _, hk.trans (hr k')⟩
  unfold Held.OK.At
  match g with
  | 0 =>
    refine sep4_congr (congrArg (fun S => kvV.view.loc (V d c s) ↦[S]{_} A.kv) ((set_allA kvV).trans (View.set_whole _)))
      (congrArg (fun S => gixV.view.loc (V d c s) ↦[S]{_} tabAt A.wg w) ((tab gixV).trans (etab _)))
      (congrArg (fun S => oixV.view.loc (V d c s) ↦[S]{_} tabAt A.wo w) ((tab oixV).trans (etab _))) ?_
    have e : (held_ok (d := d) (c := c) (s := s) hA w q₀ 0 r q).set = outSet A 0 w r :=
      (set_named koV _ (outSet A 0 w r) fun i => rowK 0 i _ fun k' => congrArg BitVec.toNat (read_rowOf oixV r (tabAt A.wo w) _)).trans (e262 _)
    cases new
    · exact congrArg (fun S => koV.view.loc (V d c s) ↦[S]{fullShare} A.ko) e
    · exact congrArg (fun S => koV.view.loc (V d c s) ↦[S]{fullShare} A.tk) e
  | 1 =>
    refine sep4_congr (congrArg (fun S => kcV.view.loc (V d c s) ↦[S]{_} A.kc) ((set_allB kcV).trans (View.set_whole _)))
      (congrArg (fun S => pixV.view.loc (V d c s) ↦[S]{_} tabAt A.pa w) ((tab pixV).trans (etab _)))
      (congrArg (fun S => pixV.view.loc (V d c s) ↦[S]{_} tabAt A.pa w) ((tab pixV).trans (etab _))) ?_
    have e : (held_ok (d := d) (c := c) (s := s) hA w q₀ 1 r q).set = outSet A 1 w r :=
      (set_named koV _ (outSet A 1 w r) fun i => rowK 1 i _ fun k' => congrArg BitVec.toNat (read_rowOf pixV r (tabAt A.pa w) _)).trans (e262 _)
    cases new
    · exact congrArg (fun S => koV.view.loc (V d c s) ↦[S]{fullShare} A.ko) e
    · exact congrArg (fun S => koV.view.loc (V d c s) ↦[S]{fullShare} A.tk) e
  | 2 =>
    refine sep4_congr (congrArg (fun S => vvV.view.loc (V d c s) ↦[S]{_} A.vv) ((set_allA vvV).trans (View.set_whole _)))
      (congrArg (fun S => gixV.view.loc (V d c s) ↦[S]{_} tabAt A.wg w) ((tab gixV).trans (etab _)))
      (congrArg (fun S => oixV.view.loc (V d c s) ↦[S]{_} tabAt A.wo w) ((tab oixV).trans (etab _))) ?_
    have e : (held_ok (d := d) (c := c) (s := s) hA w q₀ 2 r q).set = outSet A 0 w r :=
      (set_named voV _ (outSet A 0 w r) fun i => rowK 0 i _ fun k' => congrArg BitVec.toNat (read_rowOf oixV r (tabAt A.wo w) _)).trans (e262 _)
    cases new
    · exact congrArg (fun S => voV.view.loc (V d c s) ↦[S]{fullShare} A.vo) e
    · exact congrArg (fun S => voV.view.loc (V d c s) ↦[S]{fullShare} A.tv) e
  | 3 =>
    refine sep4_congr (congrArg (fun S => vcV.view.loc (V d c s) ↦[S]{_} A.vc) ((set_allB vcV).trans (View.set_whole _)))
      (congrArg (fun S => pixV.view.loc (V d c s) ↦[S]{_} tabAt A.pa w) ((tab pixV).trans (etab _)))
      (congrArg (fun S => pixV.view.loc (V d c s) ↦[S]{_} tabAt A.pa w) ((tab pixV).trans (etab _))) ?_
    have e : (held_ok (d := d) (c := c) (s := s) hA w q₀ 3 r q).set = outSet A 1 w r :=
      (set_named voV _ (outSet A 1 w r) fun i => rowK 1 i _ fun k' => congrArg BitVec.toNat (read_rowOf pixV r (tabAt A.pa w) _)).trans (e262 _)
    cases new
    · exact congrArg (fun S => voV.view.loc (V d c s) ↦[S]{fullShare} A.vo) e
    · exact congrArg (fun S => voV.view.loc (V d c s) ↦[S]{fullShare} A.tv) e

/-! ## All pieces together -/

/-- Two propositions that entail one another are equal. -/
theorem eq_of_entails {P Q : sProp (MM F)} (h : P ⊢ Q) (h' : Q ⊢ P) : P = Q := BI.equiv_iff.mp ⟨h, h'⟩

/-- The elements of a table, row by row. -/
theorem tab_rows {ℓ : Loc nD τ sig} (K : Fin 32 → Finset (Idx ℓ)) (hK : ∀ r r', r ≠ r' → Disjoint (K r) (K r')) (q : PosShare TreeShare) (f : Buf (Elt F) ℓ) :
    (bigSep Finset.univ fun r => ℓ ↦[K r]{q} f : sProp (MM F)) = ℓ ↦[Finset.univ.biUnion K]{q} f :=
  (pointsTo_biUnion _ _ fun r _ r' _ hr => hK r r' hr).symm
theorem tabSet_disjoint (r r' : Fin 32) (h : r ≠ r') : Disjoint (tabSet r) (tabSet r') := by
  rw [Finset.disjoint_left]
  intro i hi hi'
  rw [tabSet, Finset.mem_filter] at hi hi'
  exact h (Fin.ext (hi.2.symm.trans hi'.2))
theorem tabSet_biUnion : Finset.univ.biUnion tabSet = Finset.univ := by
  ext i
  rw [Finset.mem_biUnion]
  refine iff_of_true ⟨i 0, Finset.mem_univ _, ?_⟩ (Finset.mem_univ _)
  exact Finset.mem_filter.mpr ⟨Finset.mem_univ _, rfl⟩

variable (A)

theorem gix_rows (w : Fin 32) (q : PosShare TreeShare) :
    (bigSep Finset.univ fun r => gixP A d c s w (tabSet r) q) = gixP A d c s w Finset.univ q :=
  (tab_rows (ℓ := gixV.view.loc (V d c s)) tabSet tabSet_disjoint q _).trans (congrArg (fun S => gixP A d c s w S q) tabSet_biUnion)
theorem oix_rows (w : Fin 32) (q : PosShare TreeShare) :
    (bigSep Finset.univ fun r => oixP A d c s w (tabSet r) q) = oixP A d c s w Finset.univ q :=
  (tab_rows (ℓ := oixV.view.loc (V d c s)) tabSet tabSet_disjoint q _).trans (congrArg (fun S => oixP A d c s w S q) tabSet_biUnion)
theorem pix_rows (w : Fin 32) (q : PosShare TreeShare) :
    (bigSep Finset.univ fun r => pixP A d c s w (tabSet r) q) = pixP A d c s w Finset.univ q :=
  (tab_rows (ℓ := pixV.view.loc (V d c s)) tabSet tabSet_disjoint q _).trans (congrArg (fun S => pixP A d c s w S q) tabSet_biUnion)

theorem halves {ℓ : Loc nD τ sig} {I : Finset (Idx ℓ)} (q : PosShare TreeShare) (f : Buf (Elt F) ℓ) :
    (ℓ ↦[I]{q} f : sProp (MM F)) = iprop((ℓ ↦[I]{q.left} f) ∗ ℓ ↦[I]{q.right} f) :=
  eq_of_entails (pointsTo_share (PosShare.mem_left_op_right q)).1 (pointsTo_share (PosShare.mem_left_op_right q)).2

/-- Tile `w`'s rows of the two results. -/
def outs (d : Dev nD) (c : Fin τ.nSC) (s : Fin τ.nSub) (w : Fin 32) (new : Bool) : sProp (MM F) :=
  iprop((bigSep Finset.univ fun k => bigSep Finset.univ fun r => koP A d c s w new k r)
    ∗ (bigSep Finset.univ fun k => bigSep Finset.univ fun r => voP A d c s w new k r))

/-- The four sources, at a share. -/
def srcs (d : Dev nD) (c : Fin τ.nSC) (s : Fin τ.nSub) (q : PosShare TreeShare) : sProp (MM F) :=
  iprop(kvP A d c s q ∗ kcP A d c s q ∗ vvP A d c s q ∗ vcP A d c s q)
/-- The three tables in scratch. -/
def tabs (d : Dev nD) (c : Fin τ.nSC) (s : Fin τ.nSub) (w : Fin 32) : sProp (MM F) :=
  iprop(gixP A d c s w Finset.univ fullShare ∗ oixP A d c s w Finset.univ fullShare ∗ pixP A d c s w Finset.univ fullShare)

theorem bigSep_fin4 (Φ : Fin 4 → sProp (MM F)) : bigSep Finset.univ Φ = iprop(Φ 0 ∗ Φ 1 ∗ Φ 2 ∗ Φ 3) := by
  rw [show (Finset.univ : Finset (Fin 4)) = insert 0 (insert 1 (insert 2 {3})) from by decide, SparseCore.bigSep_insert' (by decide), SparseCore.bigSep_insert' (by decide), SparseCore.bigSep_insert' (by decide), bigSep_singleton]

theorem bigSep_fin2 (Φ : Fin 2 → sProp (MM F)) : bigSep Finset.univ Φ = iprop(Φ 0 ∗ Φ 1) := BI.bigSep_fin_two Φ

/-- One group's pieces. -/
theorem group_eq (a b e f : Fin 32 → sProp (MM F)) : (bigSep Finset.univ fun r => iprop(a r ∗ b r ∗ e r ∗ f r))
    = iprop(bigSep Finset.univ a ∗ bigSep Finset.univ b ∗ bigSep Finset.univ e ∗ bigSep Finset.univ f) := by
  rw [bigSep_sep', bigSep_sep', bigSep_sep']

/-- Chunks by group and row. -/
def chunkIx : Fin 4 × Fin 32 ↪ ℕ := ⟨fun p => 32 * p.1.val + p.2.val, fun p p' h => by
  have h1 := p.2.isLt; have h2 := p'.2.isLt
  simp only at h
  exact Prod.ext (Fin.ext (by omega)) (Fin.ext (by omega))⟩
theorem chunkIx_univ : Finset.univ.map chunkIx = Finset.Ico 0 128 := by
  ext j
  rw [Finset.mem_map, Finset.mem_Ico]
  constructor
  · rintro ⟨⟨g, r⟩, -, rfl⟩; have := g.isLt; have := r.isLt; refine ⟨Nat.zero_le _, ?_⟩; show 32 * g.val + r.val < 128; omega
  · rintro ⟨-, h⟩; exact ⟨(⟨j / 32, by omega⟩, ⟨j % 32, by omega⟩), Finset.mem_univ _, (show 32 * (j / 32) + j % 32 = j by omega)⟩

/-- All the chunks' pieces are the sources, the tables and the tile's rows of the results. -/
theorem pieces_eq (w : Fin 32) (q₀ : PosShare TreeShare) (new : Bool) :
    (bigSep (Finset.Ico 0 128) fun j => piece A d c s w q₀ new (grpOf j) (rowIx j)) = iprop(srcs A d c s q₀ ∗ tabs A d c s w ∗ outs A d c s w new) := by
  rw [← chunkIx_univ, BI.bigSep_map, bigSep_univ_prod, bigSep_fin4]
  have e (g : Fin 4) : (bigSep Finset.univ fun r : Fin 32 => piece A d c s w q₀ new (grpOf (chunkIx (g, r))) (rowIx (chunkIx (g, r))))
      = bigSep Finset.univ fun r : Fin 32 => piece A d c s w q₀ new g r := by
    refine bigSep_congr fun r _ => ?_
    have hg := g.isLt; have hr := r.isLt
    rw [show grpOf (chunkIx (g, r)) = g from Fin.ext (show ((32 * g.val + r.val) / 32) % 4 = g.val by omega),
      show rowIx (chunkIx (g, r)) = r from Fin.ext (show (32 * g.val + r.val) % 32 = r.val by omega)]
  rw [e 0, e 1, e 2, e 3]
  simp only [piece]
  rw [group_eq, group_eq, group_eq, group_eq, gix_rows, gix_rows, oix_rows, oix_rows, pix_rows, pix_rows, pix_rows, pix_rows,
    ← pointsTo_piecesOf, ← pointsTo_piecesOf, ← pointsTo_piecesOf, ← pointsTo_piecesOf]
  unfold srcs tabs outs
  rw [bigSep_fin2, bigSep_fin2]
  have hg : gixP A d c s w Finset.univ fullShare = iprop(gixP A d c s w Finset.univ fullShare.left ∗ gixP A d c s w Finset.univ fullShare.right) := halves _ _
  have ho : oixP A d c s w Finset.univ fullShare = iprop(oixP A d c s w Finset.univ fullShare.left ∗ oixP A d c s w Finset.univ fullShare.right) := halves _ _
  have hp : pixP A d c s w Finset.univ fullShare = iprop((pixP A d c s w Finset.univ fullShare.left.left ∗ pixP A d c s w Finset.univ fullShare.left.right)
      ∗ (pixP A d c s w Finset.univ fullShare.right.left ∗ pixP A d c s w Finset.univ fullShare.right.right)) := by
    refine (halves _ _).trans ?_
    exact congrArg₂ (fun a b : sProp (MM F) => iprop(a ∗ b)) (halves _ _) (halves _ _)
  rw [hg, ho, hp]
  refine eq_of_entails ?_ ?_
  · iintro ⟨⟨Ha, Hg0, Ho0, Hk0⟩, ⟨Hb, Hp0, Hp1, Hk1⟩, ⟨He, Hg1, Ho1, Hv0⟩, ⟨Hf, Hp2, Hp3, Hv1⟩⟩
    isplitl [Ha Hb He Hf]
    · iframe
    isplitr [Hk0 Hk1 Hv0 Hv1]
    · iframe
    · isplitl [Hk0 Hk1]
      · isplitl [Hk0]; · iexact Hk0
        iexact Hk1
      · isplitl [Hv0]; · iexact Hv0
        iexact Hv1
  · iintro ⟨⟨Ha, Hb, He, Hf⟩, ⟨⟨Hg0, Hg1⟩, ⟨Ho0, Ho1⟩, ⟨Hp0, Hp1⟩, Hp2, Hp3⟩, ⟨Hk0, Hk1⟩, Hv0, Hv1⟩
    iframe

end Cert.Proof.Fill

end
-- ==== Proof.Tile.lean ====
/-
  The task of one tile. From its shares of the tables and the sources and its rows of the two results, the tile's own buffers and
  semaphores, the three loads bring its parts of the tables into scratch and the schedule (Ring) moves all its chunks: it ends with
  its rows of the results at their new contents and everything else as it was.
-/
module

public import proofs.«01_k».proof.Proof.Chunks

@[expose] public section

noncomputable section

namespace Cert.Proof.Fill

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ring's slots -/

section Slots

variable {d : Dev nD} {c : Fin τ.nSC} {s : Fin τ.nSub}

/-- The elements of slot `q`. -/
def slotSet (q : Fin 6) : Finset S768x128.Idx := Finset.univ.filter fun i => 128 * q.val ≤ (i 0).val ∧ (i 0).val < 128 * q.val + 128

theorem slotOf_set (q : Fin 6) : (slotOf q).view.set = slotSet q := by
  refine (View.set_slice_whole cc0_scratch3 (Rect.unit (s := S768x128) ![128 * q.val, 0] S128x128.size (inb_slot q))).trans ?_
  ext i
  refine Rect.mem_set_unit.trans (Iff.trans ?_ Finset.mem_filter.symm)
  constructor
  · intro h
    exact ⟨Finset.mem_univ _, h (0 : Fin 2)⟩
  · rintro ⟨-, h⟩ (b : Fin 2)
    match b with
    | 0 => exact h
    | 1 => exact ⟨Nat.zero_le _, (show (i 1).val < 0 + 128 by have := (i 1).isLt; change (i 1).val < 128 at this; omega)⟩
theorem slotSet_disjoint (q q' : Fin 6) (h : q ≠ q') : Disjoint (slotSet q) (slotSet q') := by
  rw [Finset.disjoint_left]
  intro i hi hi'
  have h1 := (Finset.mem_filter.mp hi).2
  have h2 := (Finset.mem_filter.mp hi').2
  exact h (Fin.ext (by omega))
theorem slotSet_biUnion : Finset.univ.biUnion slotSet = Finset.univ := by
  ext i
  refine iff_of_true (Finset.mem_biUnion.mpr ?_) (Finset.mem_univ _)
  have h : (i 0).val < 768 := (i 0).isLt
  refine ⟨⟨(i 0).val / 128, by omega⟩, Finset.mem_univ _, Finset.mem_filter.mpr ⟨Finset.mem_univ _, ?_⟩⟩
  show 128 * ((i 0).val / 128) ≤ (i 0).val ∧ (i 0).val < 128 * ((i 0).val / 128) + 128
  omega

/-- The ring buffer, at some contents, is its six slots, each at some contents. -/
theorem buf_slots [hne : Nonempty (Elt F .f32)] : (iprop(∃ f, bufV.view.loc (V d c s) ↦{fullShare} f) : sProp (MM F))
    = bigSep Finset.univ fun q : Fin 6 => iprop(∃ f, (slotOf q).view.loc (V d c s) ↦[(slotOf q).view.set]{fullShare} f) := by
  have e (q : Fin 6) (f : Buf (Elt F) (bufV.view.loc (V d c s))) : ((slotOf q).view.loc (V d c s) ↦[(slotOf q).view.set]{fullShare} f : sProp (MM F))
      = bufV.view.loc (V d c s) ↦[slotSet q]{fullShare} f :=
    congrArg (fun S => (bufV.view.loc (V d c s) ↦[S]{fullShare} f : sProp (MM F))) (slotOf_set q)
  have e' (f : Buf (Elt F) (bufV.view.loc (V d c s))) : (bufV.view.loc (V d c s) ↦{fullShare} f : sProp (MM F))
      = bigSep Finset.univ fun q : Fin 6 => bufV.view.loc (V d c s) ↦[slotSet q]{fullShare} f :=
    (congrArg (fun S => (bufV.view.loc (V d c s) ↦[S]{fullShare} f : sProp (MM F))) slotSet_biUnion.symm).trans
      (pointsTo_biUnion (ℓ := bufV.view.loc (V d c s)) Finset.univ slotSet fun q _ q' _ h => slotSet_disjoint q q' h)
  refine eq_of_entails ?_ ?_
  · iintro ⟨%f, Hf⟩
    ihave H := (Entails.of_eq (e' f)) $$ Hf
    have h : (bigSep Finset.univ fun q : Fin 6 => (bufV.view.loc (V d c s) ↦[slotSet q]{fullShare} f : sProp (MM F)))
        ⊢ bigSep Finset.univ fun q : Fin 6 => iprop(∃ f, (slotOf q).view.loc (V d c s) ↦[(slotOf q).view.set]{fullShare} f) :=
      bigSep_mono fun q _ => (Entails.of_eq (e q f).symm).trans (by iintro H; iexists f; iexact H)
    iapply h $$ H
  · haveI hn : Nonempty (Buf (Elt F) (bufV.view.loc (V d c s))) := ⟨fun _ => Classical.choice hne⟩
    haveI hn' : ∀ _ : Fin 6, Nonempty (Buf (Elt F) (bufV.view.loc (V d c s))) := fun _ => hn
    refine (bigSep_exists_pi (Y := fun _ => Buf (Elt F) (bufV.view.loc (V d c s))) Finset.univ _).trans ?_
    iintro ⟨%f, H⟩
    ihave H := (Entails.of_eq (bigSep_congr fun q _ => e q (f q))) $$ H
    ihave H := (pointsTo_biUnion_join (ℓ := bufV.view.loc (V d c s)) Finset.univ slotSet f (f 0) fun q _ q' _ h => slotSet_disjoint q q' h) $$ H
    icases H with ⟨%g, -, H⟩
    iexists g
    iapply (Entails.of_eq (congrArg (fun S => (bufV.view.loc (V d c s) ↦[S]{fullShare} g : sProp (MM F))) slotSet_biUnion)) $$ H

/-- The ring's slots, free. -/
def freeAll (F : FTy → Type) (d : Dev nD) (c : Fin τ.nSC) (s : Fin τ.nSub) : sProp (MM F) := bigSep Finset.univ fun q : Fin 6 => FreeSlot F d c s q

def lowIx : Fin 6 ↪ ℕ := ⟨fun q => q.val, Fin.val_injective⟩
def highIx : Fin 6 ↪ ℕ := ⟨fun q => 128 + (q.val + 4) % 6, fun q q' h => Fin.ext (by have := q.isLt; have := q'.isLt; simp only at h; omega)⟩

theorem free_low : (bigSep (Finset.Ico 0 6) fun j => FreeSlot F d c s (slotIx j)) = freeAll F d c s := by
  rw [show Finset.Ico 0 6 = Finset.univ.map lowIx from by decide, BI.bigSep_map]
  exact bigSep_congr fun q _ => congrArg _ (by revert q; decide)
theorem free_high : (bigSep (Finset.Ico 128 134) fun j => FreeSlot F d c s (slotIx j)) = freeAll F d c s := by
  rw [show Finset.Ico 128 134 = Finset.univ.map highIx from by decide, BI.bigSep_map]
  exact bigSep_congr fun q _ => congrArg _ (by revert q; decide)

/-- The ring free is its buffer and its twelve semaphores. -/
theorem freeAll_eq [Nonempty (Elt F .f32)] : freeAll F d c s = iprop((∃ f, bufV.view.loc (V d c s) ↦{fullShare} f)
    ∗ (bigSep Finset.univ fun q : Fin 6 => semVal ((V d c s, .dma (gsem q)) : GSem nD τ sig) 0)
    ∗ (bigSep Finset.univ fun q : Fin 6 => semVal ((V d c s, .dma (ssem q)) : GSem nD τ sig) 0)) := by
  unfold freeAll FreeSlot
  rw [bigSep_sep', bigSep_sep', buf_slots]

/-! ## The tile's semaphores and buffers -/

/-- The task's semaphores: the slots' gather ones, their scatter ones, and the loads'. -/
def dsem : (Fin 6 ⊕ Fin 6) ⊕ Fin 3 → DmaSem sig
  | .inl (.inl q) => gsem q
  | .inl (.inr q) => ssem q
  | .inr 0 => cc0_scoped0.sem
  | .inr 1 => cc0_scoped1.sem
  | .inr 2 => cc0_scoped2.sem
theorem dsem_injective : Function.Injective dsem := by decide
theorem dsem_scoped (x : (Fin 6 ⊕ Fin 6) ⊕ Fin 3) : (SemLoc.dma (dsem x) : SemLoc sig).isScoped .scVector = true := by revert x; decide

def dcell (d : Dev nD) (c : Fin τ.nSC) (s : Fin τ.nSub) : (Fin 6 ⊕ Fin 6) ⊕ Fin 3 ↪ GSem nD τ sig :=
  ⟨fun x => (V d c s, .dma (dsem x)), fun x y h => dsem_injective (SemLoc.dma.inj (congrArg Prod.snd h))⟩

theorem bigSep_fin3 (Φ : Fin 3 → sProp (MM F)) : bigSep Finset.univ Φ = iprop(Φ 0 ∗ Φ 1 ∗ Φ 2) := by
  rw [show (Finset.univ : Finset (Fin 3)) = insert 0 (insert 1 {2}) from by decide, SparseCore.bigSep_insert' (by decide), SparseCore.bigSep_insert' (by decide), bigSep_singleton]

theorem ownSems0_V : (ownSems0 (V d c s) : sProp (MM F))
    = iprop((((bigSep Finset.univ fun q : Fin 6 => semVal ((V d c s, .dma (gsem q)) : GSem nD τ sig) 0)
        ∗ (bigSep Finset.univ fun q : Fin 6 => semVal ((V d c s, .dma (ssem q)) : GSem nD τ sig) 0))
        ∗ semVal ((V d c s, .dma cc0_scoped0.sem) : GSem nD τ sig) 0 ∗ semVal ((V d c s, .dma cc0_scoped1.sem) : GSem nD τ sig) 0
          ∗ semVal ((V d c s, .dma cc0_scoped2.sem) : GSem nD τ sig) 0)
      ∗ bigSep (ownCells (V d c s) \ Finset.univ.map (dcell d c s)) fun g => semVal g 0) := by
  unfold SparseCore.Cfg.ownSems0
  rw [SparseCore.bigSep_sdiff_split' (t := Finset.univ.map (dcell d c s)) (fun g hg => by
    obtain ⟨x, -, rfl⟩ := Finset.mem_map.mp hg
    exact mem_ownCells.mpr ⟨rfl, dsem_scoped x⟩)]
  refine congrArg (fun X : sProp (MM F) => iprop(X ∗ bigSep (ownCells (V d c s) \ Finset.univ.map (dcell d c s)) fun g => semVal g 0)) ?_
  refine (BI.bigSep_map _).trans ?_
  refine (BI.bigSep_univ_sum _).trans ?_
  refine (congrArg₂ (fun a b : sProp (MM F) => iprop(a ∗ b)) (BI.bigSep_univ_sum _) (bigSep_fin3 _)).trans ?_
  rfl

abbrev bref (c : Fin τ.nSC) (s : Fin τ.nSub) (b : Ref sig .scVector) : DevRef τ sig := (Proc.scVector c s).devRef b

theorem bref_ne (b b' : Ref sig .scVector) (h : b ≠ b') : bref c s b ≠ bref c s b' := fun e => h (Proc.devRef_injective _ e)

theorem ownBufs_V : (ownBufs (V d c s) : sProp (MM F))
    = iprop((∃ f, gixV.view.loc (V d c s) ↦{fullShare} f) ∗ (∃ f, oixV.view.loc (V d c s) ↦{fullShare} f)
        ∗ (∃ f, pixV.view.loc (V d c s) ↦{fullShare} f) ∗ (∃ f, bufV.view.loc (V d c s) ↦{fullShare} f)
        ∗ bigSep (((((ownRefs (τ := τ) (.scVector c s)).erase (bref c s cc0_scratch0)).erase (bref c s cc0_scratch1)).erase (bref c s cc0_scratch2)).erase (bref c s cc0_scratch3))
            fun b => iprop(∃ f, ((d, b) : Loc nD τ sig) ↦{fullShare} f)) := by
  unfold SparseCore.Cfg.ownBufs
  have h (b : Ref sig .scVector) (hb : (bref c s b).owner = (bref c s cc0_scratch0).owner) : bref c s b ∈ ownRefs (τ := τ) (.scVector c s) :=
    SparseCore.Cfg.mem_ownRefs_of_owner (p := Proc.scVector c s) (b := bref c s b) hb
  refine (SparseCore.bigSep_erase' (h cc0_scratch0 rfl)).trans ?_
  rw [SparseCore.bigSep_erase' (Finset.mem_erase.mpr ⟨bref_ne cc0_scratch1 cc0_scratch0 (by decide), h cc0_scratch1 rfl⟩),
    SparseCore.bigSep_erase' (Finset.mem_erase.mpr ⟨bref_ne cc0_scratch2 cc0_scratch1 (by decide),
      Finset.mem_erase.mpr ⟨bref_ne cc0_scratch2 cc0_scratch0 (by decide), h cc0_scratch2 rfl⟩⟩),
    SparseCore.bigSep_erase' (Finset.mem_erase.mpr ⟨bref_ne cc0_scratch3 cc0_scratch2 (by decide),
      Finset.mem_erase.mpr ⟨bref_ne cc0_scratch3 cc0_scratch1 (by decide),
      Finset.mem_erase.mpr ⟨bref_ne cc0_scratch3 cc0_scratch0 (by decide), h cc0_scratch3 rfl⟩⟩⟩)]

end Slots

/-! ## The task -/

section Body

variable (d : Dev nD) (L : grid0.Coords) (A : Arrays F)

abbrev cV (L : grid0.Coords) : Fin τ.nSC := (L 0).castLE hcore0
abbrev jV (L : grid0.Coords) : Fin τ.nSub := (L 1).castLE hsub0
/-- The tile's number. -/
def wid (L : grid0.Coords) : Fin 32 := ⟨2 * (L 1).val + (L 0).val, by
  have h0 : (L 0).val < 2 := (L 0).isLt
  have h1 : (L 1).val < 16 := (L 1).isLt
  omega⟩

/-- Tile `L`'s part of a table, as the loads address it. -/
abbrev tabRow (M : Memref sig .scVector .hbm S32x32x128 .i32) (L : grid0.Coords) : Memref sig .scVector .hbm S32x128 .i32 :=
  (M.slice (Rect.unit (s := S32x32x128) (k0_off1 L) S1x32x128.size (k0_off1_inb L)) (fun _ => rfl)).squeeze S32x128 squeezes_S1x32x128_S32x128

/-- It reads the table at the tile's number. -/
theorem read_tabRow (M : Memref sig .scVector .hbm S32x32x128 .i32) (f : M.view.ty.Contents (Elt F)) (x : S32x128.Idx) :
    (tabRow M L).view.read (Elt F) f x = M.view.read (Elt F) f (ix3 (wid L) (x 0) (x 1)) := by
  have e : Shape.reshapeEquiv (s := S1x32x128) (s' := S32x128) squeezes_S1x32x128_S32x128.numel_eq x = (ix3 (0 : Fin 1) (x 0 : Fin 32) (x 1 : Fin 128) : S1x32x128.Idx) :=
    Shape.reshapeEquiv_eq_of_rowMajor _ (by
      rw [Shape.rowMajor_val_three, Shape.rowMajor_val_two]
      show (0 * 32 + (x 0).val) * 128 + (x 1).val = (x 0).val * 128 + (x 1).val
      omega)
  show M.view.read (Elt F) f ((Rect.unit (s := S32x32x128) (k0_off1 L) S1x32x128.size (k0_off1_inb L)).emb (Shape.reshapeEquiv (s := S1x32x128) (s' := S32x128) squeezes_S1x32x128_S32x128.numel_eq x)) = _
  rw [e]
  refine congrArg (M.view.read (Elt F) f) (funext fun (b : Fin 3) => Fin.ext ?_)
  have ho := k0_off1_eq L
  match b with
  | 0 => show k0_off1 L 0 + 1 * 0 = 2 * (L 1).val + (L 0).val; rw [ho]; rfl
  | 1 => show k0_off1 L 1 + 1 * (x 0).val = (x 0).val; rw [ho]; show 0 + 1 * (x 0).val = _; omega
  | 2 => show k0_off1 L 2 + 1 * (x 1).val = (x 1).val; rw [ho]; show 0 + 1 * (x 1).val = _; omega

/-- What the handshakes bring the tile and take back: the tables and the sources at its share, its rows of the results. -/
def tile (d : Dev nD) (L : grid0.Coords) (new : Bool) : sProp (MM F) :=
  iprop((wgV.view.loc (V d (cV L) (jV L)) ↦[Finset.univ]{pieceOf fullShare 32 (by decide) (wid L)} A.wg)
    ∗ (woV.view.loc (V d (cV L) (jV L)) ↦[Finset.univ]{pieceOf fullShare 32 (by decide) (wid L)} A.wo)
    ∗ (paV.view.loc (V d (cV L) (jV L)) ↦[Finset.univ]{pieceOf fullShare 32 (by decide) (wid L)} A.pa)
    ∗ srcs A d (cV L) (jV L) (pieceOf fullShare 32 (by decide) (wid L)) ∗ outs A d (cV L) (jV L) (wid L) new)

variable [FloatOps F] {A}

/-- All the chunks of a tile at once. -/
theorem chunks_eq (hA : A.OK) (q₀ : PosShare TreeShare) (new : Bool) {c : Fin τ.nSC} {s : Fin τ.nSub} (w : Fin 32) :
    (bigSep (Finset.Ico 0 128) fun j => (held_ok (d := d) (c := c) (s := s) hA w q₀ (grpOf j) (rowIx j) (slotIx j)).At
        (bif new then (held A w q₀ (grpOf j) (rowIx j) (slotIx j)).ft else (held A w q₀ (grpOf j) (rowIx j) (slotIx j)).fo))
      = iprop(srcs A d c s q₀ ∗ tabs A d c s w ∗ outs A d c s w new) :=
  (bigSep_congr fun j _ => at_piece hA w q₀ new (grpOf j) (rowIx j) (slotIx j)).trans (pieces_eq A w q₀ new)

/-- The schedule, from the tables in scratch, the sources, the rows of the results and the ring free. -/
theorem wp_sched (hA : A.OK) (w : Fin 32) (q₀ : PosShare TreeShare) {c : Fin τ.nSC} {s : Fin τ.nSub} (O : CellTallies nD τ sig (HIx 1)) (W : Waits sig (HIx 1)) :
    iprop(Transfers.MayWaits (V d c s) (default : HIx 1) O ∗ (srcs A d c s q₀ ∗ tabs A d c s w ∗ outs A d c s w false) ∗ freeAll F d c s ∗ Owes F d c s O W)
      ⊢ wpT d c s (run sched) fun _ => iprop((srcs A d c s q₀ ∗ tabs A d c s w ∗ outs A d c s w true) ∗ freeAll F d c s ∗ Owes F d c s O W) := by
  refine BIBase.Entails.trans ?_ (st_sched (h := fun j => held A w q₀ (grpOf j) (rowIx j) (slotIx j))
    (fun j => held_ok hA w q₀ (grpOf j) (rowIx j) (slotIx j)) O W ?_)
  · unfold At St
    rw [← chunks_eq d hA q₀ false w, ← free_low]
    simp only [Finset.Ico_self, bigSep_empty, zero_add]
    iintro ⟨#Hmw, Hc, Hf, HO⟩
    isplitr; · iexact Hmw
    isplitr; · iempintro
    isplitr; · iempintro
    isplitr; · iempintro
    isplitl [Hc]; · iexact Hc
    isplitl [Hf]; · iexact Hf
    iexact HO
  · unfold At St
    rw [← chunks_eq d hA q₀ true w, ← free_high]
    iintro ⟨-, Hc, -, -, -, Hf, HO⟩
    isplitl [Hc]; · iexact Hc
    isplitl [Hf]; · iexact Hf
    iexact HO

/-- What a load leaves in scratch. -/
theorem landed (M : Memref sig .scVector .hbm S32x32x128 .i32) (f : M.view.ty.Contents (Elt F)) (g : S32x128.Idx → Elt F .i32)
    (h : ∀ x, M.view.read (Elt F) f (ix3 (wid L) (x 0) (x 1)) = g x) : (tabRow M L).view.read (Elt F) f = g :=
  funext fun x => (read_tabRow L M f x).trans (h x)

/-- The tables at a share. -/
def tabsHbm (A : Arrays F) (d : Dev nD) (c : Fin τ.nSC) (s : Fin τ.nSub) (q : PosShare TreeShare) : sProp (MM F) :=
  iprop((wgV.view.loc (V d c s) ↦[Finset.univ]{q} A.wg) ∗ (woV.view.loc (V d c s) ↦[Finset.univ]{q} A.wo)
    ∗ (paV.view.loc (V d c s) ↦[Finset.univ]{q} A.pa))
/-- The loads' semaphores. -/
def loadSems (F : FTy → Type) (d : Dev nD) (c : Fin τ.nSC) (s : Fin τ.nSub) : sProp (MM F) :=
  iprop(semVal ((V d c s, .dma cc0_scoped0.sem) : GSem nD τ sig) 0 ∗ semVal ((V d c s, .dma cc0_scoped1.sem) : GSem nD τ sig) 0
          ∗ semVal ((V d c s, .dma cc0_scoped2.sem) : GSem nD τ sig) 0)

set_option maxHeartbeats 4000000 in
/-- The three loads: the tile's parts of the tables in scratch. -/
theorem wp_loads (q : PosShare TreeShare) (O : CellTallies nD τ sig (HIx 1)) (W : Waits sig (HIx 1)) (p : TP F (cV L) (jV L)) (Q : PUnit → sProp (MM F)) :
    iprop(Transfers.MayWaits (V d (cV L) (jV L)) (default : HIx 1) O ∗ tabsHbm A d (cV L) (jV L) q
        ∗ ((∃ f, gixV.view.loc (V d (cV L) (jV L)) ↦{fullShare} f) ∗ (∃ f, oixV.view.loc (V d (cV L) (jV L)) ↦{fullShare} f)
          ∗ (∃ f, pixV.view.loc (V d (cV L) (jV L)) ↦{fullShare} f)) ∗ loadSems F d (cV L) (jV L) ∗ owes (V d (cV L) (jV L)) O W)
      ⊢ iprop((iprop(tabsHbm A d (cV L) (jV L) q ∗ tabs A d (cV L) (jV L) (wid L) ∗ loadSems F d (cV L) (jV L) ∗ Owes F d (cV L) (jV L) O W)
          -∗ wpT d (cV L) (jV L) p Q) -∗ wpT d (cV L) (jV L) (loads L >>= fun _ => p) Q) := by
  unfold loads k0_part1 tabsHbm tabs loadSems Owes wpT
  rw [wp_bind]
  iintro ⟨#Hmw, ⟨Hwg, Hwo, Hpa⟩, ⟨⟨%f0, Hgix⟩, ⟨%f1, Hoix⟩, ⟨%f2, Hpix⟩⟩, ⟨HsA, HsB, HsC⟩, HO⟩ Hk
  ihave Hwg := (pointsTo_split_subset (q := q) (f := A.wg) (S := Finset.univ) (Finset.subset_univ (tabRow wgV L).view.set)).1 $$ Hwg
  icases Hwg with ⟨Hwg, HwgR⟩
  ihave Hwg := (Entails.of_eq (show (wgV.view.loc (V d (cV L) (jV L)) ↦[(tabRow wgV L).view.set]{q} A.wg : sProp (MM F))
    = (tabRow wgV L).view.loc (V d (cV L) (jV L)) ↦[(tabRow wgV L).view.set]{q} A.wg from rfl)) $$ Hwg
  ihave Hwo := (pointsTo_split_subset (q := q) (f := A.wo) (S := Finset.univ) (Finset.subset_univ (tabRow woV L).view.set)).1 $$ Hwo
  icases Hwo with ⟨Hwo, HwoR⟩
  ihave Hwo := (Entails.of_eq (show (woV.view.loc (V d (cV L) (jV L)) ↦[(tabRow woV L).view.set]{q} A.wo : sProp (MM F))
    = (tabRow woV L).view.loc (V d (cV L) (jV L)) ↦[(tabRow woV L).view.set]{q} A.wo from rfl)) $$ Hwo
  ihave Hpa := (pointsTo_split_subset (q := q) (f := A.pa) (S := Finset.univ) (Finset.subset_univ (tabRow paV L).view.set)).1 $$ Hpa
  icases Hpa with ⟨Hpa, HpaR⟩
  ihave Hpa := (Entails.of_eq (show (paV.view.loc (V d (cV L) (jV L)) ↦[(tabRow paV L).view.set]{q} A.pa : sProp (MM F))
    = (tabRow paV L).view.loc (V d (cV L) (jV L)) ↦[(tabRow paV L).view.set]{q} A.pa from rfl)) $$ Hpa
  sl_exec
  have hg : View.write (Elt F) gixV.view f0 (wp_loads.sl.dma0 (A := A) L) Finset.univ = tabAt A.wg (wid L) :=
    (View.write_whole_univ _ _ _).trans (landed L wgV A.wg _ fun _ => rfl)
  have ho : View.write (Elt F) oixV.view f1 (wp_loads.sl.dma0_1 (A := A) L) Finset.univ = tabAt A.wo (wid L) :=
    (View.write_whole_univ _ _ _).trans (landed L woV A.wo _ fun _ => rfl)
  have hp : View.write (Elt F) pixV.view f2 (wp_loads.sl.dma0_2 (A := A) L) Finset.univ = tabAt A.pa (wid L) :=
    (View.write_whole_univ _ _ _).trans (landed L paV A.pa _ fun _ => rfl)
  rw [hg, ho, hp]
  iapply Hk
  isplitl [HwgR HwoR HpaR]
  · isplitl [HwgR]; · iexact HwgR
    isplitl [HwoR]; · iexact HwoR
    iexact HpaR
  isplitl [Hgix Hoix Hpix]
  · isplitl [Hgix]; · iexact Hgix
    isplitl [Hoix]; · iexact Hoix
    iexact Hpix
  isplitl [HsA HsB HsC]
  · isplitl [HsA]; · iexact HsA
    isplitl [HsB]; · iexact HsB
    iexact HsC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

set_option maxHeartbeats 4000000 in
/-- The task on tile `L` of device `d`. -/
theorem tile_body (hF : (K (F := F)).Facts) (hA : A.OK) (O : CellTallies nD τ sig (HIx 1)) (W : Waits sig (HIx 1)) (hO : ∀ g, O g none = 0) :
    iprop(levAts (K (F := F)).L (K (F := F)).lev ∗ emp ∗ tile A d L false
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (body (F := F) L)
          fun _ => iprop(tile A d L true
            ∗ scopedBufs (V d (cV L) (jV L)) ∗ scopedSems0 (V d (cV L) (jV L))
            ∗ ∃ W', ⌜∀ p ∈ W', p ∈ W ∨ p.2 = none⌝ ∗ owes (V d (cV L) (jV L)) O W') := by
  haveI : Nonempty (Elt F .f32) := ⟨A.kv (fun (b : Fin 2) => match b with | 0 => (0 : Fin 131072) | 1 => (0 : Fin 128))⟩
  rw [body_eq, (K (F := F)).scopedBufs_V hF d (cV L) (jV L), SparseCore.Cfg.scopedSems0_V (Val := Elt F) d (cV L) (jV L), ownSems0_V, ownBufs_V]
  unfold tile
  iintro ⟨#Hlv, -, ⟨Hwg, Hwo, Hpa, Hsrc, Hout⟩, ⟨Hgix, Hoix, Hpix, Hbuf, Hbufs⟩, ⟨⟨⟨Hgs, Hss⟩, HsA, HsB, HsC⟩, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  iapply (wp_loads d L (A := A) (pieceOf fullShare 32 (by decide) (wid L)) O W (run sched) _) $$ [Hwg Hwo Hpa Hgix Hoix Hpix HsA HsB HsC HO]
  · isplitr; · iexact Hmw
    isplitl [Hwg Hwo Hpa]
    · unfold tabsHbm
      isplitl [Hwg]; · iexact Hwg
      isplitl [Hwo]; · iexact Hwo
      iexact Hpa
    isplitl [Hgix Hoix Hpix]
    · isplitl [Hgix]; · iexact Hgix
      isplitl [Hoix]; · iexact Hoix
      iexact Hpix
    isplitl [HsA HsB HsC]
    · unfold loadSems
      isplitl [HsA]; · iexact HsA
      isplitl [HsB]; · iexact HsB
      iexact HsC
    iexact HO
  iintro ⟨Hhbm, Htabs, Hload, HO⟩
  have hs := wp_sched d hA (wid L) (pieceOf fullShare 32 (by decide) (wid L)) (c := cV L) (s := jV L) O W
  rw [freeAll_eq] at hs
  ihave Hw := hs $$ [Htabs Hsrc Hout Hbuf Hgs Hss HO]
  · isplitr; · iexact Hmw
    isplitl [Hsrc Htabs Hout]
    · isplitl [Hsrc]; · iexact Hsrc
      isplitl [Htabs]; · iexact Htabs
      iexact Hout
    isplitl [Hbuf Hgs Hss]
    · isplitl [Hbuf]; · iexact Hbuf
      isplitl [Hgs]; · iexact Hgs
      iexact Hss
    iexact HO
  iapply (wp_wand frame _ _) $$ Hw
  iintro %u ⟨⟨Hsrc, Htabs, Hout⟩, ⟨Hbuf, Hgs, Hss⟩, HO⟩
  unfold tabsHbm tabs loadSems
  icases Hhbm with ⟨Hwg, Hwo, Hpa⟩
  icases Htabs with ⟨Hgix, Hoix, Hpix⟩
  icases Hload with ⟨HsA, HsB, HsC⟩
  isplitl [Hwg Hwo Hpa Hsrc Hout]
  · isplitl [Hwg]; · iexact Hwg
    isplitl [Hwo]; · iexact Hwo
    isplitl [Hpa]; · iexact Hpa
    isplitl [Hsrc] <;> iassumption
  isplitl [Hgix Hoix Hpix Hbuf Hbufs]
  · isplitl [Hgix]; · iexists _; iexact Hgix
    isplitl [Hoix]; · iexists _; iexact Hoix
    isplitl [Hpix]; · iexists _; iexact Hpix
    isplitl [Hbuf]; · iexact Hbuf
    iexact Hbufs
  isplitl [HsA HsB HsC Hsems Hgs Hss]
  · isplitr [Hsems]
    · isplitl [Hgs Hss]
      · isplitl [Hgs]; · iexact Hgs
        iexact Hss
      isplitl [HsA]; · iexact HsA
      isplitl [HsB]; · iexact HsB
      iexact HsC
    iexact Hsems
  unfold Owes; iexact HO

end Body

end Cert.Proof.Fill

end
-- ==== Proof.HostOps.lean ====
/-
  The host operations of the program, as lists: those before the kernel in five groups, and those after it. The program
  is the first five groups, the launch, and the last group.
-/
module

public import proofs.«01_k».proof.Proof.Tile
public import Idealize.ShloMosaic.Lib.StableHlo.Run

@[expose] public section

set_option maxRecDepth 65536

noncomputable section

namespace Cert.Proof.Fill

open Cert.KernelIdeal Cert.KernelIdeal.Gen Idealize.ShloMosaic Idealize.ShloMosaic.TcCoe Idealize.ShloMosaic.StableHlo Idealize.SL.Sem

variable {F : FTy → Type} [FloatOps F]

/-- The operations that compute the flat table of destination pages, `main_v22`. -/
abbrev pagesOps : List (HloOp τ sig (Elt F)) :=
  [ unary main_arg0 main_v0 ((Host.slice S1x16 ![0, 0] ![1, 128] · slicesBy_S1x2048_S1x16_0s1_0s128) : (⟨S1x2048, .i32⟩ : BufTy).Contents (Elt F) → (⟨S1x16, .i32⟩ : BufTy).Contents (Elt F)),
    reshape main_v0 main_v1 (rfl : (.i32 : EltTy) = .i32) shapeCasts_S1x16_S16,
    nullary main_c (constantI S_ 32 7#32),
    unary main_c main_v2 (broadcastInDim S16 ![] bcast_S_S16 : (⟨S_, .i32⟩ : BufTy).Contents (Elt F) → (⟨S16, .i32⟩ : BufTy).Contents (Elt F)),
    binary main_v1 main_v2 main_v3 (Host.shrsi : (⟨S16, .i32⟩ : BufTy).Contents (Elt F) → (⟨S16, .i32⟩ : BufTy).Contents (Elt F) → (⟨S16, .i32⟩ : BufTy).Contents (Elt F)),
    unary main_arg3 main_v4 (broadcastInDim S8x1 ![0] bcast_S8_S8x1_0 : (⟨S8, .i32⟩ : BufTy).Contents (Elt F) → (⟨S8x1, .i32⟩ : BufTy).Contents (Elt F)),
    unary main_v3 main_v5 (broadcastInDim S1x16 ![1] bcast_S16_S1x16_1 : (⟨S16, .i32⟩ : BufTy).Contents (Elt F) → (⟨S1x16, .i32⟩ : BufTy).Contents (Elt F)),
    nullary main_c_0 (constantI S_ 32 0#32),
    unary main_c_0 main_v6 (broadcastInDim S8x1 ![] bcast_S_S8x1 : (⟨S_, .i32⟩ : BufTy).Contents (Elt F) → (⟨S8x1, .i32⟩ : BufTy).Contents (Elt F)),
    binary main_v4 main_v6 main_v7 (cmpi .slt : (⟨S8x1, .i32⟩ : BufTy).Contents (Elt F) → (⟨S8x1, .i32⟩ : BufTy).Contents (Elt F) → (⟨S8x1, .i1⟩ : BufTy).Contents (Elt F)),
    nullary main_c_1 (constantI S_ 32 8#32),
    unary main_c_1 main_v8 (broadcastInDim S8x1 ![] bcast_S_S8x1 : (⟨S_, .i32⟩ : BufTy).Contents (Elt F) → (⟨S8x1, .i32⟩ : BufTy).Contents (Elt F)),
    binary main_v4 main_v8 main_v9 (addi : (⟨S8x1, .i32⟩ : BufTy).Contents (Elt F) → (⟨S8x1, .i32⟩ : BufTy).Contents (Elt F) → (⟨S8x1, .i32⟩ : BufTy).Contents (Elt F)),
    ternary main_v7 main_v9 main_v4 main_v10 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    nullary main_c_2 (constantI S_ 32 0#32),
    unary main_c_2 main_v11 (broadcastInDim S1x16 ![] bcast_S_S1x16 : (⟨S_, .i32⟩ : BufTy).Contents (Elt F) → (⟨S1x16, .i32⟩ : BufTy).Contents (Elt F)),
    binary main_v5 main_v11 main_v12 (cmpi .slt : (⟨S1x16, .i32⟩ : BufTy).Contents (Elt F) → (⟨S1x16, .i32⟩ : BufTy).Contents (Elt F) → (⟨S1x16, .i1⟩ : BufTy).Contents (Elt F)),
    nullary main_c_3 (constantI S_ 32 32#32),
    unary main_c_3 main_v13 (broadcastInDim S1x16 ![] bcast_S_S1x16 : (⟨S_, .i32⟩ : BufTy).Contents (Elt F) → (⟨S1x16, .i32⟩ : BufTy).Contents (Elt F)),
    binary main_v5 main_v13 main_v14 (addi : (⟨S1x16, .i32⟩ : BufTy).Contents (Elt F) → (⟨S1x16, .i32⟩ : BufTy).Contents (Elt F) → (⟨S1x16, .i32⟩ : BufTy).Contents (Elt F)),
    ternary main_v12 main_v14 main_v5 main_v15 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    unary main_v10 main_v16 (broadcastInDim S8x16 ![0, 1] bcast_S8x1_S8x16_0_1 : (⟨S8x1, .i32⟩ : BufTy).Contents (Elt F) → (⟨S8x16, .i32⟩ : BufTy).Contents (Elt F)),
    unary main_v15 main_v17 (broadcastInDim S8x16 ![0, 1] bcast_S1x16_S8x16_0_1 : (⟨S1x16, .i32⟩ : BufTy).Contents (Elt F) → (⟨S8x16, .i32⟩ : BufTy).Contents (Elt F)),
    unary main_v16 main_v18 (broadcastInDim S8x16x1 ![0, 1] bcast_S8x16_S8x16x1_0_1 : (⟨S8x16, .i32⟩ : BufTy).Contents (Elt F) → (⟨S8x16x1, .i32⟩ : BufTy).Contents (Elt F)),
    unary main_v17 main_v19 (broadcastInDim S8x16x1 ![0, 1] bcast_S8x16_S8x16x1_0_1 : (⟨S8x16, .i32⟩ : BufTy).Contents (Elt F) → (⟨S8x16x1, .i32⟩ : BufTy).Contents (Elt F)),
    binary main_v18 main_v19 main_v20 ((fun a b => concatenate S8x16x2 2 [⟨S8x16x1, a⟩, ⟨S8x16x1, b⟩] concatenates_S8x16x1_S8x16x1_S8x16x2_d2) : (⟨S8x16x1, .i32⟩ : BufTy).Contents (Elt F) → (⟨S8x16x1, .i32⟩ : BufTy).Contents (Elt F) → (⟨S8x16x2, .i32⟩ : BufTy).Contents (Elt F)),
    binary main_arg6 main_v20 main_v21 ((fun x i => Host.gather gather_S8x32_S8x16x2_S8x16_n_01_n_n_01_2_11 x i) : (⟨S8x32, .i32⟩ : BufTy).Contents (Elt F) → (⟨S8x16x2, .i32⟩ : BufTy).Contents (Elt F) → (⟨S8x16, .i32⟩ : BufTy).Contents (Elt F)),
    reshape main_v21 main_v22 (rfl : (.i32 : EltTy) = .i32) shapeCasts_S8x16_S128 ]

/-- The operations that compute the list of the pages no token goes to, `main_v33`. -/
abbrev markOps : List (HloOp τ sig (Elt F)) :=
  [ nullary main_c_4 (constantI S_ 32 0#32),
    unary main_c_4 main_v23 (broadcastInDim S256 ![] bcast_S_S256 : (⟨S_, .i32⟩ : BufTy).Contents (Elt F) → (⟨S256, .i32⟩ : BufTy).Contents (Elt F)),
    nullary main_c_5 (constantI S_ 32 0#32),
    unary main_c_5 main_v24 (broadcastInDim S128 ![] bcast_S_S128 : (⟨S_, .i32⟩ : BufTy).Contents (Elt F) → (⟨S128, .i32⟩ : BufTy).Contents (Elt F)),
    binary main_v22 main_v24 main_v25 (cmpi .slt : (⟨S128, .i32⟩ : BufTy).Contents (Elt F) → (⟨S128, .i32⟩ : BufTy).Contents (Elt F) → (⟨S128, .i1⟩ : BufTy).Contents (Elt F)),
    nullary main_c_6 (constantI S_ 32 256#32),
    unary main_c_6 main_v26 (broadcastInDim S128 ![] bcast_S_S128 : (⟨S_, .i32⟩ : BufTy).Contents (Elt F) → (⟨S128, .i32⟩ : BufTy).Contents (Elt F)),
    binary main_v22 main_v26 main_v27 (addi : (⟨S128, .i32⟩ : BufTy).Contents (Elt F) → (⟨S128, .i32⟩ : BufTy).Contents (Elt F) → (⟨S128, .i32⟩ : BufTy).Contents (Elt F)),
    ternary main_v25 main_v27 main_v22 main_v28 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v28 main_v29 (broadcastInDim S128x1 ![0] bcast_S128_S128x1_0 : (⟨S128, .i32⟩ : BufTy).Contents (Elt F) → (⟨S128x1, .i32⟩ : BufTy).Contents (Elt F)),
    nullary main_c_7 (constantI S_ 32 1#32),
    unary main_c_7 main_v30 (broadcastInDim S128 ![] bcast_S_S128 : (⟨S_, .i32⟩ : BufTy).Contents (Elt F) → (⟨S128, .i32⟩ : BufTy).Contents (Elt F)),
    ternary main_v23 main_v29 main_v30 main_v31 ((fun x i u => Host.scatter scatter_S256_S128x1_S128_n_0_0_1 (fun _ b => b) x i u) : (⟨S256, .i32⟩ : BufTy).Contents (Elt F) → (⟨S128x1, .i32⟩ : BufTy).Contents (Elt F) → (⟨S128, .i32⟩ : BufTy).Contents (Elt F) → (⟨S256, .i32⟩ : BufTy).Contents (Elt F)),
    TRef.nullary main_call0.v0 (iotaInDim S256 32 0),
    TRef.binary (.of main_v31) main_call0.v0 main_call0.v1_0 (fun x y => (Host.sort2 S256 0 comparator_i32_i32_d0 x y).1),
    TRef.binary (.of main_v31) main_call0.v0 main_call0.v1_1 (fun x y => (Host.sort2 S256 0 comparator_i32_i32_d0 x y).2),
    unary main_v32 main_v33 ((extractStridedSlice S128 ![0] · slices_S256_S128_0) : (⟨S256, .i32⟩ : BufTy).Contents (Elt F) → (⟨S128, .i32⟩ : BufTy).Contents (Elt F)) ]

/-- The operations that split the row and the page-entry counters into their coordinates, `main_v35`, `main_v36`, `main_v38` and `main_v39`. -/
abbrev axesOps : List (HloOp τ sig (Elt F)) :=
  [ nullary main_v34 (iotaInDim S1024 32 0),
    nullary main_c_8 (constantI S_ 32 128#32),
    TRef.unary (.of main_c_8) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S1024 ![] bcast_S_S1024),
    TRef.binary (.of main_v34) main_call1.v3 main_call1.v4 Host.remsi,
    TRef.nullary main_call1.c_1 (constantI S_ 32 0#32),
    TRef.unary main_call1.c_1 main_call1.v5 (broadcastInDim S1024 ![] bcast_S_S1024),
    TRef.binary main_call1.v4 main_call1.v5 main_call1.v6 (cmpi .ne),
    TRef.nullary main_call1.c_2 (constantI S_ 32 0#32),
    TRef.unary main_call1.c_2 main_call1.v7 (broadcastInDim S1024 ![] bcast_S_S1024),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S1024 ![] bcast_S_S1024),
    TRef.binary main_call1.v8 main_call1.v10 main_call1.v11 (cmpi .ne),
    TRef.binary main_call1.v11 main_call1.v6 main_call1.v12 andi,
    TRef.unary main_call1.call0.v0 main_call1.v13 (broadcastInDim S1024 ![] bcast_S_S1024),
    TRef.binary main_call1.v4 main_call1.v13 main_call1.v14 addi,
    TRef.ternary main_call1.v12 main_call1.v14 main_call1.v4 main_call1.v15 select,
    nullary main_c_9 (constantI S_ 32 128#32),
    TRef.unary (.of main_c_9) main_call2.v0 id,
    TRef.unary main_call2.v0 main_call2.v1 (broadcastInDim S1024 ![] bcast_S_S1024),
    TRef.binary (.of main_v34) main_call2.v1 main_call2.v2 Host.divsi,
    TRef.unary (.of main_v34) main_call2.v3 signi,
    TRef.unary main_call2.v0 main_call2.v4 signi,
    TRef.unary main_call2.v4 main_call2.v5 (broadcastInDim S1024 ![] bcast_S_S1024),
    TRef.binary main_call2.v3 main_call2.v5 main_call2.v6 (cmpi .ne),
    TRef.unary main_call2.v0 main_call2.v7 (broadcastInDim S1024 ![] bcast_S_S1024),
    TRef.binary (.of main_v34) main_call2.v7 main_call2.v8 Host.remsi,
    TRef.nullary main_call2.c (constantI S_ 32 0#32),
    TRef.unary main_call2.c main_call2.v9 (broadcastInDim S1024 ![] bcast_S_S1024),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S1024 ![] bcast_S_S1024),
    TRef.binary main_call2.v2 main_call2.v12 main_call2.v13 subi,
    TRef.ternary main_call2.v11 main_call2.v13 main_call2.v2 main_call2.call0.v0 select,
    nullary main_v37 (iotaInDim S128 32 0),
    nullary main_c_10 (constantI S_ 32 16#32),
    TRef.unary (.of main_c_10) main_call3.v0 id,
    TRef.unary main_call3.v0 main_call3.v1 (broadcastInDim S128 ![] bcast_S_S128),
    TRef.binary (.of main_v37) main_call3.v1 main_call3.v2 Host.divsi,
    TRef.unary (.of main_v37) main_call3.v3 signi,
    TRef.unary main_call3.v0 main_call3.v4 signi,
    TRef.unary main_call3.v4 main_call3.v5 (broadcastInDim S128 ![] bcast_S_S128),
    TRef.binary main_call3.v3 main_call3.v5 main_call3.v6 (cmpi .ne),
    TRef.unary main_call3.v0 main_call3.v7 (broadcastInDim S128 ![] bcast_S_S128),
    TRef.binary (.of main_v37) main_call3.v7 main_call3.v8 Host.remsi,
    TRef.nullary main_call3.c (constantI S_ 32 0#32),
    TRef.unary main_call3.c main_call3.v9 (broadcastInDim S128 ![] bcast_S_S128),
    TRef.binary main_call3.v8 main_call3.v9 main_call3.v10 (cmpi .ne),
    TRef.binary main_call3.v6 main_call3.v10 main_call3.v11 andi,
    TRef.nullary main_call3.c_0 (constantI S_ 32 1#32),
    TRef.unary main_call3.c_0 main_call3.v12 (broadcastInDim S128 ![] bcast_S_S128),
    TRef.binary main_call3.v2 main_call3.v12 main_call3.v13 subi,
    TRef.ternary main_call3.v11 main_call3.v13 main_call3.v2 main_call3.call0.v0 select,
    nullary main_c_11 (constantI S_ 32 16#32),
    TRef.unary (.of main_c_11) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S128 ![] bcast_S_S128),
    TRef.binary (.of main_v37) main_call4.v3 main_call4.v4 Host.remsi,
    TRef.nullary main_call4.c_1 (constantI S_ 32 0#32),
    TRef.unary main_call4.c_1 main_call4.v5 (broadcastInDim S128 ![] bcast_S_S128),
    TRef.binary main_call4.v4 main_call4.v5 main_call4.v6 (cmpi .ne),
    TRef.nullary main_call4.c_2 (constantI S_ 32 0#32),
    TRef.unary main_call4.c_2 main_call4.v7 (broadcastInDim S128 ![] bcast_S_S128),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S128 ![] bcast_S_S128),
    TRef.binary main_call4.v8 main_call4.v10 main_call4.v11 (cmpi .ne),
    TRef.binary main_call4.v11 main_call4.v6 main_call4.v12 andi,
    TRef.unary main_call4.call0.v0 main_call4.v13 (broadcastInDim S128 ![] bcast_S_S128),
    TRef.binary main_call4.v4 main_call4.v13 main_call4.v14 addi,
    TRef.ternary main_call4.v12 main_call4.v14 main_call4.v4 main_call4.v15 select ]

/-- The operations that compute the three index tables, `main_v70`, `main_v71` and `main_v72`. -/
abbrev tablesOps : List (HloOp τ sig (Elt F)) :=
  [ nullary main_c_12 (constantI S_ 32 16384#32),
    unary main_c_12 main_v40 (broadcastInDim S128 ![] bcast_S_S128 : (⟨S_, .i32⟩ : BufTy).Contents (Elt F) → (⟨S128, .i32⟩ : BufTy).Contents (Elt F)),
    binary main_v38 main_v40 main_v41 (muli : (⟨S128, .i32⟩ : BufTy).Contents (Elt F) → (⟨S128, .i32⟩ : BufTy).Contents (Elt F) → (⟨S128, .i32⟩ : BufTy).Contents (Elt F)),
    nullary main_c_13 (constantI S_ 32 128#32),
    unary main_c_13 main_v42 (broadcastInDim S128 ![] bcast_S_S128 : (⟨S_, .i32⟩ : BufTy).Contents (Elt F) → (⟨S128, .i32⟩ : BufTy).Contents (Elt F)),
    binary main_v39 main_v42 main_v43 (muli : (⟨S128, .i32⟩ : BufTy).Contents (Elt F) → (⟨S128, .i32⟩ : BufTy).Contents (Elt F) → (⟨S128, .i32⟩ : BufTy).Contents (Elt F)),
    binary main_v41 main_v43 main_v44 (addi : (⟨S128, .i32⟩ : BufTy).Contents (Elt F) → (⟨S128, .i32⟩ : BufTy).Contents (Elt F) → (⟨S128, .i32⟩ : BufTy).Contents (Elt F)),
    unary main_v44 main_v45 (broadcastInDim S128x1 ![0] bcast_S128_S128x1_0 : (⟨S128, .i32⟩ : BufTy).Contents (Elt F) → (⟨S128x1, .i32⟩ : BufTy).Contents (Elt F)),
    nullary main_c_14 (constantI S_ 32 2048#32),
    unary main_c_14 main_v46 (broadcastInDim S1024 ![] bcast_S_S1024 : (⟨S_, .i32⟩ : BufTy).Contents (Elt F) → (⟨S1024, .i32⟩ : BufTy).Contents (Elt F)),
    binary main_v36 main_v46 main_v47 (muli : (⟨S1024, .i32⟩ : BufTy).Contents (Elt F) → (⟨S1024, .i32⟩ : BufTy).Contents (Elt F) → (⟨S1024, .i32⟩ : BufTy).Contents (Elt F)),
    binary main_v47 main_v35 main_v48 (addi : (⟨S1024, .i32⟩ : BufTy).Contents (Elt F) → (⟨S1024, .i32⟩ : BufTy).Contents (Elt F) → (⟨S1024, .i32⟩ : BufTy).Contents (Elt F)),
    unary main_v48 main_v49 (broadcastInDim S1x1024 ![1] bcast_S1024_S1x1024_1 : (⟨S1024, .i32⟩ : BufTy).Contents (Elt F) → (⟨S1x1024, .i32⟩ : BufTy).Contents (Elt F)),
    unary main_v45 main_v50 (broadcastInDim S128x1024 ![0, 1] bcast_S128x1_S128x1024_0_1 : (⟨S128x1, .i32⟩ : BufTy).Contents (Elt F) → (⟨S128x1024, .i32⟩ : BufTy).Contents (Elt F)),
    unary main_v49 main_v51 (broadcastInDim S128x1024 ![0, 1] bcast_S1x1024_S128x1024_0_1 : (⟨S1x1024, .i32⟩ : BufTy).Contents (Elt F) → (⟨S128x1024, .i32⟩ : BufTy).Contents (Elt F)),
    binary main_v50 main_v51 main_v52 (addi : (⟨S128x1024, .i32⟩ : BufTy).Contents (Elt F) → (⟨S128x1024, .i32⟩ : BufTy).Contents (Elt F) → (⟨S128x1024, .i32⟩ : BufTy).Contents (Elt F)),
    nullary main_c_15 (constantI S_ 32 1024#32),
    unary main_c_15 main_v53 (broadcastInDim S128 ![] bcast_S_S128 : (⟨S_, .i32⟩ : BufTy).Contents (Elt F) → (⟨S128, .i32⟩ : BufTy).Contents (Elt F)),
    binary main_v22 main_v53 main_v54 (muli : (⟨S128, .i32⟩ : BufTy).Contents (Elt F) → (⟨S128, .i32⟩ : BufTy).Contents (Elt F) → (⟨S128, .i32⟩ : BufTy).Contents (Elt F)),
    unary main_v54 main_v55 (broadcastInDim S128x1 ![0] bcast_S128_S128x1_0 : (⟨S128, .i32⟩ : BufTy).Contents (Elt F) → (⟨S128x1, .i32⟩ : BufTy).Contents (Elt F)),
    nullary main_c_16 (constantI S_ 32 8#32),
    unary main_c_16 main_v56 (broadcastInDim S1024 ![] bcast_S_S1024 : (⟨S_, .i32⟩ : BufTy).Contents (Elt F) → (⟨S1024, .i32⟩ : BufTy).Contents (Elt F)),
    binary main_v35 main_v56 main_v57 (muli : (⟨S1024, .i32⟩ : BufTy).Contents (Elt F) → (⟨S1024, .i32⟩ : BufTy).Contents (Elt F) → (⟨S1024, .i32⟩ : BufTy).Contents (Elt F)),
    binary main_v57 main_v36 main_v58 (addi : (⟨S1024, .i32⟩ : BufTy).Contents (Elt F) → (⟨S1024, .i32⟩ : BufTy).Contents (Elt F) → (⟨S1024, .i32⟩ : BufTy).Contents (Elt F)),
    unary main_v58 main_v59 (broadcastInDim S1x1024 ![1] bcast_S1024_S1x1024_1 : (⟨S1024, .i32⟩ : BufTy).Contents (Elt F) → (⟨S1x1024, .i32⟩ : BufTy).Contents (Elt F)),
    unary main_v55 main_v60 (broadcastInDim S128x1024 ![0, 1] bcast_S128x1_S128x1024_0_1 : (⟨S128x1, .i32⟩ : BufTy).Contents (Elt F) → (⟨S128x1024, .i32⟩ : BufTy).Contents (Elt F)),
    unary main_v59 main_v61 (broadcastInDim S128x1024 ![0, 1] bcast_S1x1024_S128x1024_0_1 : (⟨S1x1024, .i32⟩ : BufTy).Contents (Elt F) → (⟨S128x1024, .i32⟩ : BufTy).Contents (Elt F)),
    binary main_v60 main_v61 main_v62 (addi : (⟨S128x1024, .i32⟩ : BufTy).Contents (Elt F) → (⟨S128x1024, .i32⟩ : BufTy).Contents (Elt F) → (⟨S128x1024, .i32⟩ : BufTy).Contents (Elt F)),
    nullary main_c_17 (constantI S_ 32 1024#32),
    unary main_c_17 main_v63 (broadcastInDim S128 ![] bcast_S_S128 : (⟨S_, .i32⟩ : BufTy).Contents (Elt F) → (⟨S128, .i32⟩ : BufTy).Contents (Elt F)),
    binary main_v33 main_v63 main_v64 (muli : (⟨S128, .i32⟩ : BufTy).Contents (Elt F) → (⟨S128, .i32⟩ : BufTy).Contents (Elt F) → (⟨S128, .i32⟩ : BufTy).Contents (Elt F)),
    unary main_v64 main_v65 (broadcastInDim S128x1 ![0] bcast_S128_S128x1_0 : (⟨S128, .i32⟩ : BufTy).Contents (Elt F) → (⟨S128x1, .i32⟩ : BufTy).Contents (Elt F)),
    unary main_v34 main_v66 (broadcastInDim S1x1024 ![1] bcast_S1024_S1x1024_1 : (⟨S1024, .i32⟩ : BufTy).Contents (Elt F) → (⟨S1x1024, .i32⟩ : BufTy).Contents (Elt F)),
    unary main_v65 main_v67 (broadcastInDim S128x1024 ![0, 1] bcast_S128x1_S128x1024_0_1 : (⟨S128x1, .i32⟩ : BufTy).Contents (Elt F) → (⟨S128x1024, .i32⟩ : BufTy).Contents (Elt F)),
    unary main_v66 main_v68 (broadcastInDim S128x1024 ![0, 1] bcast_S1x1024_S128x1024_0_1 : (⟨S1x1024, .i32⟩ : BufTy).Contents (Elt F) → (⟨S128x1024, .i32⟩ : BufTy).Contents (Elt F)),
    binary main_v67 main_v68 main_v69 (addi : (⟨S128x1024, .i32⟩ : BufTy).Contents (Elt F) → (⟨S128x1024, .i32⟩ : BufTy).Contents (Elt F) → (⟨S128x1024, .i32⟩ : BufTy).Contents (Elt F)),
    reshape main_v52 main_v70 (rfl : (.i32 : EltTy) = .i32) shapeCasts_S128x1024_S32x32x128,
    reshape main_v62 main_v71 (rfl : (.i32 : EltTy) = .i32) shapeCasts_S128x1024_S32x32x128,
    reshape main_v69 main_v72 (rfl : (.i32 : EltTy) = .i32) shapeCasts_S128x1024_S32x32x128 ]

/-- The operations that flatten the four float arrays into matrices of rows, `main_v73` to `main_v76`. -/
abbrev flatOps : List (HloOp τ sig (Elt F)) :=
  [ reshape main_arg1 main_v73 (rfl : (.f32 : EltTy) = .f32) shapeCasts_S8x8x2048x128_S131072x128,
    reshape main_arg2 main_v74 (rfl : (.f32 : EltTy) = .f32) shapeCasts_S8x8x2048x128_S131072x128,
    reshape main_arg4 main_v75 (rfl : (.f32 : EltTy) = .f32) shapeCasts_S32768x8x128_S262144x128,
    reshape main_arg5 main_v76 (rfl : (.f32 : EltTy) = .f32) shapeCasts_S32768x8x128_S262144x128 ]

/-- The operations after the kernel: the two matrices of rows back in the caches' shape. -/
abbrev outOps : List (HloOp τ sig (Elt F)) :=
  [ reshape main_v77_0 main_v78 (rfl : (.f32 : EltTy) = .f32) shapeCasts_S262144x128_S32768x8x128,
    reshape main_v77_1 main_v79 (rfl : (.f32 : EltTy) = .f32) shapeCasts_S262144x128_S32768x8x128 ]

/-- All operations before the kernel. -/
abbrev preOps : List (HloOp τ sig (Elt F)) := pagesOps ++ (markOps ++ (axesOps ++ (tablesOps ++ flatOps)))

/-- The program is its first operations, the kernel's launch and its last operations. -/
theorem main_eq (d : Dev nD) :
    main (F := F) d = seq preOps >>= fun _ => sc.run d 0 >>= fun _ => seq outOps := rfl

end Cert.Proof.Fill

end
-- ==== Proof.Axes.lean ====
module

public import proofs.«01_k».proof.Proof.HostOps
public import Idealize.ShloMosaic.Lib.StableHlo.ReadAt
public import Idealize.ShloMosaic.Lib.StableHlo.RunRead
public import Idealize.ShloMosaic.Lib.Routing.Words

@[expose] public section

set_option maxRecDepth 65536

noncomputable section

namespace Cert.Proof.Fill

open Cert.KernelIdeal Cert.KernelIdeal.Gen Idealize.ShloMosaic Idealize.ShloMosaic.TcCoe Idealize.ShloMosaic.StableHlo Idealize.SL.Sem

variable {F : FTy → Type} [FloatOps F]

/-- The remainder of naturals as the program computes it on words. -/
theorem mod_word (a b : ℕ) (ha : a < 2 ^ 31) (h0 : 0 < b) (hb : b < 2 ^ 31) (x y : BitVec 32) (hx : x = BitVec.ofNat 32 a) (hy : y = BitVec.ofNat 32 b) :
    Scalar.select (IntOp.andi (IntOp.cmpi .ne (IntOp.cmpi .slt (IntOp.remsi .host x y) 0#32) (IntOp.cmpi .slt y 0#32)) (IntOp.cmpi .ne (IntOp.remsi .host x y) 0#32))
      (IntOp.addi (IntOp.remsi .host x y) y) (IntOp.remsi .host x y) = BitVec.ofNat 32 (a % b) := by
  subst hx hy
  rw [Routing.remsi_word .host ha h0 hb]
  have hm : a % b < 2 ^ 31 := lt_trans (Nat.mod_lt _ h0) hb
  have e1 : IntOp.cmpi .slt (BitVec.ofNat 32 (a % b)) 0#32 = 0#1 := by
    rw [WordCmp.cmpi_slt_zero, BitVec.toNat_ofNat, Nat.mod_eq_of_lt (by omega), decide_eq_false (by omega)]; rfl
  have e2 : IntOp.cmpi .slt (BitVec.ofNat 32 b) 0#32 = 0#1 := by
    rw [WordCmp.cmpi_slt_zero, BitVec.toNat_ofNat, Nat.mod_eq_of_lt (by omega), decide_eq_false (by omega)]; rfl
  rw [e1, e2]
  generalize IntOp.cmpi .ne (BitVec.ofNat 32 (a % b)) 0#32 = z
  have : IntOp.andi (IntOp.cmpi .ne 0#1 0#1) z = 0#1 := by revert z; decide
  rw [this]
  rfl

/-- The quotient of naturals as the program computes it on words. -/
theorem div_word (a b : ℕ) (ha : a < 2 ^ 31) (h0 : 0 < b) (hb : b < 2 ^ 31) (x y : BitVec 32) (hx : x = BitVec.ofNat 32 a) (hy : y = BitVec.ofNat 32 b) :
    Scalar.select (IntOp.andi (IntOp.cmpi .ne (if x = 0 then 0 else if x.msb = true then -1 else 1) (if y = 0 then 0 else if BitVec.msb y = true then -1 else (1 : BitVec 32)))
        (IntOp.cmpi .ne (IntOp.remsi .host x y) 0#32))
      (IntOp.subi (IntOp.divsi .host x y) 1#32) (IntOp.divsi .host x y) = BitVec.ofNat 32 (a / b) := by
  subst hx hy
  rw [Routing.remsi_word .host ha h0 hb, Routing.divsi_word .host ha h0 hb]
  have hb0 : BitVec.ofNat 32 b ≠ 0 := fun h => by
    have := congrArg BitVec.toNat h
    rw [BitVec.toNat_ofNat, Nat.mod_eq_of_lt (by omega)] at this
    exact absurd this (by show b ≠ 0; omega)
  have hbm : (BitVec.ofNat 32 b).msb = false := by
    rw [BitVec.msb_eq_false_iff_two_mul_lt, BitVec.toNat_ofNat, Nat.mod_eq_of_lt (by omega)]; omega
  have ham : (BitVec.ofNat 32 a).msb = false := by
    rw [BitVec.msb_eq_false_iff_two_mul_lt, BitVec.toNat_ofNat, Nat.mod_eq_of_lt (by omega)]; omega
  rw [if_neg hb0, hbm, ham]
  by_cases h : a = 0
  · subst h
    rw [Nat.zero_mod, show IntOp.cmpi .ne (BitVec.ofNat 32 0) 0#32 = 0#1 by decide]
    generalize IntOp.cmpi .ne _ _ = z
    have : IntOp.andi z 0#1 = 0#1 := by revert z; decide
    rw [this]; rfl
  · have ha0 : BitVec.ofNat 32 a ≠ 0 := fun h' => by
      have := congrArg BitVec.toNat h'
      rw [BitVec.toNat_ofNat, Nat.mod_eq_of_lt (by omega)] at this
      exact absurd this (by show a ≠ 0; omega)
    rw [if_neg ha0]
    generalize IntOp.cmpi .ne (BitVec.ofNat 32 (a % b)) 0#32 = z
    have : IntOp.andi (IntOp.cmpi .ne (if false = true then -1 else (1 : BitVec 32)) (if false = true then -1 else (1 : BitVec 32))) z = 0#1 := by
      rw [show IntOp.cmpi .ne (if false = true then -1 else (1 : BitVec 32)) (if false = true then -1 else (1 : BitVec 32)) = 0#1 by decide]
      revert z; decide
    rw [this]; rfl

/-- The position in the block, the remainder of the row number by 128. -/
theorem axes_v35 (V : Valuation τ sig (Elt F)) (j : S1024.Idx) : StableHlo.after axesOps V main_v35 j = BitVec.ofNat 32 ((j 0).val % 128) := by
  have hj : (j 0).val < 1024 := (j 0).isLt
  after_reads_at
  exact mod_word _ 128 (by omega) (by omega) (by omega) _ _ rfl rfl

/-- The head, the quotient of the row number by 128. -/
theorem axes_v36 (V : Valuation τ sig (Elt F)) (j : S1024.Idx) : StableHlo.after axesOps V main_v36 j = BitVec.ofNat 32 ((j 0).val / 128) := by
  have hj : (j 0).val < 1024 := (j 0).isLt
  after_reads_at
  exact div_word _ 128 (by omega) (by omega) (by omega) _ _ rfl rfl

/-- The batch, the quotient of the page number by 16. -/
theorem axes_v38 (V : Valuation τ sig (Elt F)) (j : S128.Idx) : StableHlo.after axesOps V main_v38 j = BitVec.ofNat 32 ((j 0).val / 16) := by
  have hj : (j 0).val < 128 := (j 0).isLt
  after_reads_at
  exact div_word _ 16 (by omega) (by omega) (by omega) _ _ rfl rfl

/-- The block in the batch, the remainder of the page number by 16. -/
theorem axes_v39 (V : Valuation τ sig (Elt F)) (j : S128.Idx) : StableHlo.after axesOps V main_v39 j = BitVec.ofNat 32 ((j 0).val % 16) := by
  have hj : (j 0).val < 128 := (j 0).isLt
  after_reads_at
  exact mod_word _ 16 (by omega) (by omega) (by omega) _ _ rfl rfl

/-- The row number itself. -/
theorem axes_v34 (V : Valuation τ sig (Elt F)) (j : S1024.Idx) : StableHlo.after axesOps V main_v34 j = BitVec.ofNat 32 (j 0).val := by
  after_reads_at

/-- The page number, out of 128, of an entry of a table. -/
def pg (x : S32x32x128.Idx) : Fin 128 := ⟨(x 0).val * 4 + (x 1).val / 8, by have : (x 0).val < 32 := (x 0).isLt; have : (x 1).val < 32 := (x 1).isLt; omega⟩

/-- The row number in its page, out of 1024, of an entry of a table. -/
def rw' (x : S32x32x128.Idx) : Fin 1024 := ⟨(x 1).val % 8 * 128 + (x 2).val, by have : (x 2).val < 128 := (x 2).isLt; omega⟩

/-- An entry of the table of source rows is made of the page number's and the row number's parts. -/
theorem tables_v70 (V : Valuation τ sig (Elt F)) (x : S32x32x128.Idx) :
    (StableHlo.after tablesOps (StableHlo.after axesOps V) main_v70 x).toNat = (pg x).val / 16 * 16384 + (pg x).val % 16 * 128 + ((rw' x).val / 128 * 2048 + (rw' x).val % 128) := by
  have e : StableHlo.after tablesOps (StableHlo.after axesOps V) main_v70 x = IntOp.addi (IntOp.addi (IntOp.muli (StableHlo.after axesOps V main_v38 (ix1 (pg x))) 16384#32) (IntOp.muli (StableHlo.after axesOps V main_v39 (ix1 (pg x))) 128#32))
      (IntOp.addi (IntOp.muli (StableHlo.after axesOps V main_v36 (ix1 (rw' x))) 2048#32) (StableHlo.after axesOps V main_v35 (ix1 (rw' x)))) := by
    generalize StableHlo.after axesOps V = W
    after_reads_at
    rfl
  rw [e, axes_v38, axes_v39, axes_v36, axes_v35]
  have h1 := (pg x).isLt
  have h2 := (rw' x).isLt
  simp only [ix1]
  generalize (pg x).val = n at *
  generalize (rw' x).val = a at *
  simp only [IntOp.addi, IntOp.muli, BitVec.toNat_add, BitVec.toNat_mul, BitVec.toNat_ofNat]
  omega

/-- An entry of the table of the rows written from the tokens is the token page's first row plus the row in the page. -/
theorem tables_v71 (V : Valuation τ sig (Elt F)) (x : S32x32x128.Idx) (h : (V main_v22 (ix1 (pg x))).toNat < 256) :
    (StableHlo.after tablesOps (StableHlo.after axesOps V) main_v71 x).toNat = (V main_v22 (ix1 (pg x))).toNat * 1024 + ((rw' x).val % 128 * 8 + (rw' x).val / 128) := by
  have e0 : StableHlo.after axesOps V main_v22 = V main_v22 := by after_reads_simp
  have e : StableHlo.after tablesOps (StableHlo.after axesOps V) main_v71 x = IntOp.addi (IntOp.muli (StableHlo.after axesOps V main_v22 (ix1 (pg x))) 1024#32)
      (IntOp.addi (IntOp.muli (StableHlo.after axesOps V main_v35 (ix1 (rw' x))) 8#32) (StableHlo.after axesOps V main_v36 (ix1 (rw' x)))) := by
    generalize StableHlo.after axesOps V = W
    after_reads_at
    rfl
  rw [e, axes_v36, axes_v35, e0]
  have h2 := (rw' x).isLt
  simp only [ix1] at *
  generalize (rw' x).val = a at *
  revert h
  generalize V main_v22 _ = w
  intro h
  simp only [IntOp.addi, IntOp.muli, BitVec.toNat_add, BitVec.toNat_mul, BitVec.toNat_ofNat]
  omega

/-- An entry of the table of the rows carried over is the untouched page's first row plus the row in the page. -/
theorem tables_v72 (V : Valuation τ sig (Elt F)) (x : S32x32x128.Idx) (h : (V main_v33 (ix1 (pg x))).toNat < 256) :
    (StableHlo.after tablesOps (StableHlo.after axesOps V) main_v72 x).toNat = (V main_v33 (ix1 (pg x))).toNat * 1024 + (rw' x).val := by
  have e0 : StableHlo.after axesOps V main_v33 = V main_v33 := by after_reads_simp
  have e : StableHlo.after tablesOps (StableHlo.after axesOps V) main_v72 x = IntOp.addi (IntOp.muli (StableHlo.after axesOps V main_v33 (ix1 (pg x))) 1024#32)
      (StableHlo.after axesOps V main_v34 (ix1 (rw' x))) := by
    generalize StableHlo.after axesOps V = W
    after_reads_at
    rfl
  rw [e, axes_v34, e0]
  have h2 := (rw' x).isLt
  simp only [ix1] at *
  generalize (rw' x).val = a at *
  revert h
  generalize V main_v33 _ = w
  intro h
  simp only [IntOp.addi, IntOp.muli, BitVec.toNat_add, BitVec.toNat_mul, BitVec.toNat_ofNat]
  omega

end Cert.Proof.Fill

end
-- ==== Proof.Pair.lean ====
/-
  A gather of one element of a matrix at a pair of start indices, read at an index, and the three uses of it here.
-/
module

public import Idealize.ShloMosaic.Lib.Pointwise
public import Idealize.ShloMosaic.Lib.WordCmp

@[expose] public section

set_option maxRecDepth 65536

noncomputable section

namespace Cert.Proof.Fill

open Idealize.ShloMosaic

variable {α : Type}

/-- The dimension numbers of `x[r, c]` for a matrix `x` and two arrays of row and column numbers, laid side by side. -/
abbrev pairDims (P Q B S : Nat) (wf : GatherDims.WF ⟨2, ![P, Q]⟩ ⟨3, ![B, S, 2]⟩ ⟨2, ![B, S]⟩ [] [0, 1] [] [0, 1] [] 2 ![1, 1]) :
    GatherDims ⟨2, ![P, Q]⟩ ⟨3, ![B, S, 2]⟩ ⟨2, ![B, S]⟩ where
  offsetDims := []
  collapsedSliceDims := [0, 1]
  operandBatchingDims := []
  startIndicesBatchingDims := []
  startIndexMap := [0, 1]
  indexVectorDim := 2
  sliceSizes := ![1, 1]
  wf := wf

/-- The gather at `(b, s)` is the matrix at the row and the column that the indices name there, each read signed and clamped. -/
theorem gather_pair_apply {P Q B S w : Nat} (hP : 0 < P) (hQ : 0 < Q)
    (wf : GatherDims.WF ⟨2, ![P, Q]⟩ ⟨3, ![B, S, 2]⟩ ⟨2, ![B, S]⟩ [] [0, 1] [] [0, 1] [] 2 ![1, 1])
    (x : (⟨2, ![P, Q]⟩ : Shape).Idx → α) (idx : IVec ⟨3, ![B, S, 2]⟩ w) (b : Fin B) (s : Fin S) :
    Host.gather (pairDims P Q B S wf) x idx (ix2 b s)
      = x (ix2 ⟨min (idx (ix3 b s 0)).toInt.toNat (P - 1), by omega⟩ ⟨min (idx (ix3 b s 1)).toInt.toNat (Q - 1), by omega⟩) := by
  unfold Host.gather
  congr 1
  funext a
  refine Fin.ext ?_
  show (pairDims P Q B S wf).start (ix2 b s) idx a + (pairDims P Q B S wf).batchCoord (ix2 b s) a + (pairDims P Q B S wf).offCoord (ix2 b s) a = _
  have h01 : a = (0 : Fin 2) ∨ a = (1 : Fin 2) := by
    match a with
    | ⟨0, _⟩ => exact Or.inl rfl
    | ⟨1, _⟩ => exact Or.inr rfl
  have hmem : a ∈ ([0, 1] : List (Fin 2)) := by
    rcases h01 with rfl | rfl
    · exact List.mem_cons_self
    · exact List.mem_cons_of_mem _ List.mem_cons_self
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos (show a ∈ (pairDims P Q B S wf).startIndexMap from hmem)]
  have hsi : (pairDims P Q B S wf).siIdx (ix2 b s) ⟨List.idxOf a (pairDims P Q B S wf).startIndexMap,
      List.idxOf_lt_length_iff.2 hmem⟩ = ix3 b s a := by
    rcases h01 with rfl | rfl <;>
    · funext c; refine Fin.ext ?_
      match c with
      | ⟨0, _⟩ => rfl
      | ⟨1, _⟩ => rfl
      | ⟨2, _⟩ => rfl
  rw [hsi]
  rcases h01 with rfl | rfl <;> rfl

/-- A word below `k`, read signed, clamped to less than `k`, is itself. -/
theorem clamp_word (x : BitVec 32) (k : ℕ) (hx : x.toNat < k) (hk : k ≤ 2 ^ 31) : min x.toInt.toNat (k - 1) = x.toNat := by
  rw [WordCmp.toInt_eq_toNat_of_lt_half (by omega)]
  simp only [Int.toNat_natCast]
  omega

/-- A word that is not negative is not moved by the fix of negative indices. -/
theorem fix_word (x y : BitVec 32) (hx : x.toNat < 2 ^ 31) : Scalar.select (IntOp.cmpi .slt x 0#32) y x = x := by
  rw [WordCmp.cmpi_slt_zero, decide_eq_false (by omega)]; rfl

end Cert.Proof.Fill

end
-- ==== Proof.Mark.lean ====
/-
  The list of the pages no block goes to: the pages are marked, sorted by the mark, and the first half is taken.
-/
module

public import proofs.«01_k».proof.Proof.Axes
public import proofs.«01_k».proof.Proof.Pair
public import Idealize.ShloMosaic.Lib.SortFacts
public import Idealize.ShloMosaic.Lib.Routing.OpsSet

@[expose] public section

set_option maxRecDepth 65536

noncomputable section

namespace Cert.Proof.Fill

open Cert.KernelIdeal Cert.KernelIdeal.Gen Idealize.ShloMosaic Idealize.ShloMosaic.TcCoe Idealize.ShloMosaic.StableHlo Idealize.SL.Sem

variable {F : FTy → Type} [FloatOps F]

/-- Where 128 of 256 things are marked and an order puts no marked one before an unmarked one, the first 128 are unmarked. -/
theorem first_unmarked (σ : Fin 256 → Fin 256) (hσ : Function.Injective σ) (dp : Fin 128 → Fin 256) (mk : Fin 256 → Prop) (hmk : ∀ p, mk p → ∃ n, dp n = p)
    (hs : ∀ i j, i < j → mk (σ i) → mk (σ j)) (k : Fin 256) (hk : k.val < 128) : ¬ mk (σ k) := by
  intro h
  have hsub : (Finset.Ici k).image σ ⊆ Finset.univ.image dp := by
    intro p hp
    obtain ⟨j, hj, rfl⟩ := Finset.mem_image.mp hp
    have hm : mk (σ j) := by
      rcases lt_or_eq_of_le (Finset.mem_Ici.mp hj) with h' | h'
      · exact hs k j h' h
      · exact h' ▸ h
    obtain ⟨n, hn⟩ := hmk _ hm
    exact Finset.mem_image.mpr ⟨n, Finset.mem_univ _, hn⟩
  have h1 := Finset.card_le_card hsub
  rw [Finset.card_image_of_injective _ hσ, Fin.card_Ici] at h1
  have h2 : (Finset.univ.image dp).card ≤ 128 := le_trans Finset.card_image_le (by simp)
  omega

/-- An update of the marking lands at the page whose number its index word holds. -/
theorem lands_mark (idx : IVec S128x1 32) (n : Fin 128) (p : Fin 256) :
    scatter_S256_S128x1_S128_n_0_0_1.resultIdx? (Shape.Idx.ofFin n) idx = some (Shape.Idx.ofFin p) ↔ (idx (ix2 n 0)).toInt = (p.val : Int) := by
  rw [Routing.resultIdx?_eq_some]
  have hs : scatter_S256_S128x1_S128_n_0_0_1.siIdx (Shape.Idx.ofFin n) ⟨0, by decide⟩ = ix2 n 0 := by
    funext c; refine Fin.ext ?_
    match c with
    | ⟨0, _⟩ => rfl
    | ⟨1, _⟩ => rfl
  have e : scatter_S256_S128x1_S128_n_0_0_1.start (Shape.Idx.ofFin n) idx 0 + (scatter_S256_S128x1_S128_n_0_0_1.window (Shape.Idx.ofFin n) 0 : Int) = (idx (ix2 n 0)).toInt := by
    rw [← hs]
    show scatter_S256_S128x1_S128_n_0_0_1.start (Shape.Idx.ofFin n) idx 0 + ((0 : ℕ) : Int) = _
    rw [Int.natCast_zero, Int.add_zero]
    rfl
  constructor
  · intro h
    rw [← e]
    exact h 0
  · intro h a
    have ha : a = 0 := Subsingleton.elim _ _
    subst ha
    rw [e]
    exact h

/-- The marks sorted, carrying the page numbers: the first half of the page numbers are those of unmarked pages, all different. -/
theorem unmarked (idx : IVec S128x1 32) (dp : Fin 128 → Fin 256) (hidx : ∀ n, (idx (ix2 n 0)).toNat = (dp n).val) (zeros : IVec S256 32) (hz : ∀ i, zeros i = 0#32) (ones : IVec S128 32)
    (ho : ∀ i, ones i = 1#32) (ids : IVec S256 32) (hids : ∀ p : Fin 256, ids (Shape.Idx.ofFin p) = BitVec.ofNat 32 p.val) :
    ∃ ut : Fin 256 → Fin 256, Function.Injective ut ∧ (∀ k n, k.val < 128 → ut k ≠ dp n) ∧
      ∀ k : Fin 256, ((Host.sort2 S256 0 comparator_i32_i32_d0 (Host.scatter scatter_S256_S128x1_S128_n_0_0_1 (fun _ b => b) zeros idx ones) ids).2 (ix1 k)).toNat = (ut k).val := by
  have hint : ∀ n, (idx (ix2 n 0)).toInt = ((dp n).val : Int) := fun n => by
    rw [WordCmp.toInt_eq_toNat_of_lt_half (by rw [hidx]; omega), hidx]
  have hmark : ∀ n, Host.scatter scatter_S256_S128x1_S128_n_0_0_1 (fun _ b => b) zeros idx ones (Shape.Idx.ofFin (dp n)) = 1#32 := fun n =>
    Routing.scatter_set_hit _ _ _ _ _ _ (fun k _ => ho k) (Shape.Idx.ofFin n) ((lands_mark idx n (dp n)).mpr (hint n))
  have hfree : ∀ p, (∀ n, dp n ≠ p) → Host.scatter scatter_S256_S128x1_S128_n_0_0_1 (fun _ b => b) zeros idx ones (Shape.Idx.ofFin p) = 0#32 := fun p hp =>
    (Routing.scatter_set_miss _ _ _ _ _ (fun k hk => by
      have hk' : k = Shape.Idx.ofFin (k 0) := Shape.Idx.eq_ofFin k
      rw [hk'] at hk
      have h := (lands_mark idx (k 0) p).mp hk
      have h' := (hint (k 0)).symm.trans h
      exact hp (k 0) (Fin.ext (by exact_mod_cast h')))).trans (hz _)
  generalize Host.scatter scatter_S256_S128x1_S128_n_0_0_1 (fun _ b => b) zeros idx ones = mkv at *
  let R : Fin 256 → Fin 256 → Bool := fun k k' => comparator_i32_i32_d0 (mkv (Shape.Idx.ofFin k), ids (Shape.Idx.ofFin k)) (mkv (Shape.Idx.ofFin k'), ids (Shape.Idx.ofFin k')) == 1#1
  have hval : ∀ p, mkv (Shape.Idx.ofFin p) = 0#32 ∨ mkv (Shape.Idx.ofFin p) = 1#32 := fun p => by
    by_cases h : ∃ n, dp n = p
    · obtain ⟨n, rfl⟩ := h; exact Or.inr (hmark n)
    · exact Or.inl (hfree p (fun n hn => h ⟨n, hn⟩))
  have hR : ∀ a b, R a b = true ↔ mkv (Shape.Idx.ofFin a) = 0#32 ∧ mkv (Shape.Idx.ofFin b) = 1#32 := fun a b => by
    show (IntOp.cmpi .slt (mkv (Shape.Idx.ofFin a)) (mkv (Shape.Idx.ofFin b)) == 1#1) = true ↔ _
    rcases hval a with ha | ha <;> rcases hval b with hb | hb <;> rw [ha, hb] <;> decide
  have hdef : ∀ p, mkv (Shape.Idx.ofFin p) = 1#32 → ∃ n, dp n = p := fun p hp => by
    by_contra h
    have := hfree p (fun n hn => h ⟨n, hn⟩)
    rw [hp] at this
    exact absurd this (by decide)
  have hsort : ∀ i j, i < j → mkv (Shape.Idx.ofFin (sortedFrom R i)) = 1#32 → mkv (Shape.Idx.ofFin (sortedFrom R j)) = 1#32 := by
    intro i j hij hi
    rcases hval (sortedFrom R j) with h | h
    · have := sortedFrom_noInversion R R (fun a b h => by
        rw [← Bool.not_eq_true]; intro h'
        have := ((hR a b).mp h).1.symm.trans ((hR b a).mp h').2
        exact absurd this (by decide)) (fun a b h => h) (fun a b c h1 h2 => by
          rw [← Bool.not_eq_true] at *
          intro h'
          have h3 := (hR a c).mp h'
          rcases hval b with hb | hb
          · exact h2 ((hR b c).mpr ⟨hb, h3.2⟩)
          · exact h1 ((hR a b).mpr ⟨h3.1, hb⟩)) i j hij
      rw [(hR _ _).mpr ⟨h, hi⟩] at this
      exact absurd this (by decide)
    · exact h
  refine ⟨sortedFrom R, sortedFrom_injective R, fun k n hk he => ?_, fun k => ?_⟩
  · exact first_unmarked (sortedFrom R) (sortedFrom_injective R) dp (fun p => mkv (Shape.Idx.ofFin p) = 1#32) hdef hsort k hk (he ▸ hmark n)
  · have e : (Host.sort2 S256 0 comparator_i32_i32_d0 mkv ids).2 (ix1 k) = ids (Shape.Idx.ofFin (sortedFrom R k)) := by
      unfold Host.sort2
      rw [dif_pos (show 0 < S256.rank from Nat.one_pos)]
      refine (congrArg ids (Shape.Idx.along_rank1 (ix1 k) _)).trans ?_
      refine congrArg ids (congrArg Shape.Idx.ofFin ?_)
      refine congrFun (congrArg sortedFrom ?_) k
      funext a b
      simp only [R]
      rw [show (ix1 k : S256.Idx).along ⟨0, Nat.one_pos⟩ a = Shape.Idx.ofFin a from Shape.Idx.along_rank1 (ix1 k) a, show (ix1 k : S256.Idx).along ⟨0, Nat.one_pos⟩ b = Shape.Idx.ofFin b from Shape.Idx.along_rank1 (ix1 k) b]
      rfl
    rw [e, hids, BitVec.toNat_ofNat]
    omega

/-- The list of the untouched pages, from the list of the pages the blocks go to: different pages, none of them a block's. -/
theorem mark_v33 (V : Valuation τ sig (Elt F)) (dp : Fin 128 → Fin 256) (hV : ∀ n, (V main_v22 (ix1 n)).toNat = (dp n).val) :
    ∃ ut : Fin 128 → Fin 256, Function.Injective ut ∧ (∀ k n, ut k ≠ dp n) ∧ ∀ k, (StableHlo.after markOps V main_v33 (ix1 k)).toNat = (ut k).val := by
  obtain ⟨ut, hi, hd, hv⟩ := unmarked (broadcastInDim S128x1 ![0] bcast_S128_S128x1_0
      (select (cmpi CmpIPredicate.slt (V main_v22) (broadcastInDim S128 ![] bcast_S_S128 (constantI S_ 32 0#32)))
        (addi (V main_v22) (broadcastInDim S128 ![] bcast_S_S128 (constantI S_ 32 256#32))) (V main_v22))) dp
    (fun n => by
      have e : ∀ v : IVec S128 32, broadcastInDim S128x1 ![0] bcast_S128_S128x1_0
          (select (cmpi CmpIPredicate.slt v (broadcastInDim S128 ![] bcast_S_S128 (constantI S_ 32 0#32)))
            (addi v (broadcastInDim S128 ![] bcast_S_S128 (constantI S_ 32 256#32))) v) (ix2 n 0)
          = Scalar.select (IntOp.cmpi .slt (v (ix1 n)) 0#32) (IntOp.addi (v (ix1 n)) 256#32) (v (ix1 n)) := fun v => by pointwise
      rw [e, fix_word _ _ (by rw [hV]; omega), hV])
    (broadcastInDim S256 ![] bcast_S_S256 (constantI S_ 32 0#32)) (fun _ => rfl) (broadcastInDim S128 ![] bcast_S_S128 (constantI S_ 32 1#32)) (fun _ => rfl) (iotaInDim S256 32 0) (fun _ => rfl)
  refine ⟨fun k => ut ⟨k.val, by omega⟩, fun a b h => Fin.ext (Fin.mk.inj (hi h)), fun k n => hd _ n k.isLt, fun k => ?_⟩
  rw [← hv]
  refine congrArg BitVec.toNat ?_
  after_reads_at

end Cert.Proof.Fill

end
-- ==== Proof.Pages.lean ====
/-
  What the precondition says of the positions, the batch numbers and the page table, in plain numbers; and the page each
  block of 128 positions goes to.
-/
module

public import proofs.«01_k».proof.Proof.Pair
public import proofs.«01_k».proof.Proof.Gen.Pre_whole_pages
public import Idealize.ShloMosaic.Lib.Pointwise

@[expose] public section

set_option maxRecDepth 65536

noncomputable section

namespace Cert.Proof.Fill

open Idealize.ShloMosaic

variable {α : Type}

/-- A gather whose two index columns hold, at `(b, s)`, a row number and a column number in range reads the matrix there. -/
theorem gather_columns {P Q B S : Nat} (hP : 0 < P) (hQ : 0 < Q) (hP' : P ≤ 2 ^ 31) (hQ' : Q ≤ 2 ^ 31)
    (wf : GatherDims.WF ⟨2, ![P, Q]⟩ ⟨3, ![B, S, 2]⟩ ⟨2, ![B, S]⟩ [] [0, 1] [] [0, 1] [] 2 ![1, 1])
    (d : GatherDims ⟨2, ![P, Q]⟩ ⟨3, ![B, S, 2]⟩ ⟨2, ![B, S]⟩) (hd : d = pairDims P Q B S wf)
    (x : (⟨2, ![P, Q]⟩ : Shape).Idx → α) (rows cols : IVec ⟨3, ![B, S, 1]⟩ 32)
    (h : Shape.Concatenates [(⟨3, ![B, S, 1]⟩ : Shape), ⟨3, ![B, S, 1]⟩] ⟨3, ![B, S, 2]⟩ 2) (b : Fin B) (s : Fin S)
    (r : Fin P) (c : Fin Q) (hr : (rows (ix3 b s 0)).toNat = r.val) (hc : (cols (ix3 b s 0)).toNat = c.val) :
    Host.gather d x (concatenate ⟨3, ![B, S, 2]⟩ 2 [⟨⟨3, ![B, S, 1]⟩, rows⟩, ⟨⟨3, ![B, S, 1]⟩, cols⟩] h) (ix2 b s) = x (ix2 r c) := by
  subst hd
  rw [gather_pair_apply hP hQ]
  have e0 : concatenate ⟨3, ![B, S, 2]⟩ 2 [⟨⟨3, ![B, S, 1]⟩, rows⟩, ⟨⟨3, ![B, S, 1]⟩, cols⟩] h (ix3 b s 0) = rows (ix3 b s 0) := by
    pointwise
    refine congrArg _ (funext fun a => Fin.ext ?_)
    match a with
    | ⟨0, _⟩ => rfl
    | ⟨1, _⟩ => rfl
    | ⟨2, _⟩ => rfl
  have e1 : concatenate ⟨3, ![B, S, 2]⟩ 2 [⟨⟨3, ![B, S, 1]⟩, rows⟩, ⟨⟨3, ![B, S, 1]⟩, cols⟩] h (ix3 b s 1) = cols (ix3 b s 0) := by
    pointwise
    refine congrArg _ (funext fun a => Fin.ext ?_)
    match a with
    | ⟨0, _⟩ => rfl
    | ⟨1, _⟩ => rfl
    | ⟨2, _⟩ => rfl
  have f0 := clamp_word (rows (ix3 b s 0)) P (hr ▸ r.isLt) hP'
  have f1 := clamp_word (cols (ix3 b s 0)) Q (hc ▸ c.isLt) hQ'
  congr 1
  refine congr (congrArg _ (Fin.ext ?_)) (Fin.ext ?_)
  · simp only [e0, f0, hr]
  · simp only [e1, f1, hc]

/-- Shifting a word right by seven divides it by 128. -/
theorem shift_word (x : BitVec 32) (h : x.toNat < 2 ^ 31) : (IntOp.shrsi .host x 7#32).toNat = x.toNat / 128 := by
  have hm : x.msb = false := by rw [BitVec.msb_eq_false_iff_two_mul_lt]; omega
  show (if (7#32).toNat < 32 then x.sshiftRight' 7#32 else _).toNat = _
  rw [if_pos (by decide)]
  show (x.sshiftRight 7).toNat = _
  rw [BitVec.sshiftRight_eq_of_msb_false hm, BitVec.toNat_ushiftRight, Nat.shiftRight_eq_div_pow]

/-- The positions, the batch numbers and the page table as numbers: each block of 128 positions is one whole page, batch
    numbers and pages are in range, and the 128 blocks go to different pages. -/
structure Whole (pos : IVec ⟨2, ![1, 2048]⟩ 32) (bi : IVec ⟨1, ![8]⟩ 32) (pt : IVec ⟨2, ![8, 32]⟩ 32) (page : Fin 16 → Fin 32) (row : Fin 8 → Fin 8)
    (dp : Fin 128 → Fin 256) : Prop where
  pos_at : ∀ (s : Fin 16) (j : Fin 128), (pos (ix2 0 ⟨s.val * 128 + j.val, by omega⟩)).toNat = (page s).val * 128 + j.val
  bi_at : ∀ b, (bi (ix1 b)).toNat = (row b).val
  pt_at : ∀ n : Fin 128, (pt (ix2 (row ⟨n.val / 16, by omega⟩) (page ⟨n.val % 16, by omega⟩))).toNat = (dp n).val
  apart : Function.Injective dp

/-- The kernel's computation of the page of a block: the page table at the block's batch and page. -/
theorem dest_at {pos : IVec ⟨2, ![1, 2048]⟩ 32} {bi : IVec ⟨1, ![8]⟩ 32} {pt : IVec ⟨2, ![8, 32]⟩ 32} {page : Fin 16 → Fin 32} {row : Fin 8 → Fin 8}
    (hp : ∀ (s : Fin 16), (pos (ix2 0 ⟨s.val * 128, by omega⟩)).toNat / 128 = (page s).val) (hlt : ∀ (s : Fin 16), (pos (ix2 0 ⟨s.val * 128, by omega⟩)).toNat < 4096)
    (hb : ∀ b, (bi (ix1 b)).toNat = (row b).val)
    (b : Fin 8) (s : Fin 16)
    (rows cols : IVec ⟨3, ![8, 16, 1]⟩ 32)
    (h : Shape.Concatenates [(⟨3, ![8, 16, 1]⟩ : Shape), ⟨3, ![8, 16, 1]⟩] ⟨3, ![8, 16, 2]⟩ 2)
    (wf : GatherDims.WF ⟨2, ![8, 32]⟩ ⟨3, ![8, 16, 2]⟩ ⟨2, ![8, 16]⟩ [] [0, 1] [] [0, 1] [] 2 ![1, 1])
    (d : GatherDims ⟨2, ![8, 32]⟩ ⟨3, ![8, 16, 2]⟩ ⟨2, ![8, 16]⟩) (hd : d = pairDims 8 32 8 16 wf)
    (hr : rows (ix3 b s 0) = Scalar.select (IntOp.cmpi .slt (bi (ix1 b)) 0#32) (IntOp.addi (bi (ix1 b)) 8#32) (bi (ix1 b)))
    (hc : cols (ix3 b s 0) = Scalar.select (IntOp.cmpi .slt (IntOp.shrsi .host (pos (ix2 0 ⟨s.val * 128, by omega⟩)) 7#32) 0#32)
      (IntOp.addi (IntOp.shrsi .host (pos (ix2 0 ⟨s.val * 128, by omega⟩)) 7#32) 32#32) (IntOp.shrsi .host (pos (ix2 0 ⟨s.val * 128, by omega⟩)) 7#32)) :
    Host.gather d pt (concatenate ⟨3, ![8, 16, 2]⟩ 2 [⟨⟨3, ![8, 16, 1]⟩, rows⟩, ⟨⟨3, ![8, 16, 1]⟩, cols⟩] h) (ix2 b s)
      = pt (ix2 (row b) (page s)) := by
  refine gather_columns (by omega) (by omega) (by omega) (by omega) wf d hd pt rows cols h _ _ _ _ ?_ ?_
  · rw [hr, fix_word _ _ (by rw [hb]; omega), hb]
  · have h4 := hlt s
    have h5 := shift_word (pos (ix2 0 ⟨s.val * 128, by omega⟩)) (by omega)
    rw [hc, fix_word _ _ (by rw [h5]; omega), h5]
    exact hp s

open Cert.Pre_whole_pages Cert.Pre_whole_pages.Gen in
/-- The precondition gives the positions, the batch numbers and the page table as numbers. -/
theorem whole_of_pre {F : FTy → Type} [FloatOps F] (a0 : IVec S1x2048 32) (a1 a2 : FVec F S8x8x2048x128 .f32) (a3 : IVec S8 32) (a4 a5 : FVec F S32768x8x128 .f32) (a6 : IVec S8x32 32)
    (h1 : (Cert.Pre_whole_pages.fn a0 a1 a2 a3 a4 a5 a6).1 = fun _ => 1#1)
    (h2 : (Cert.Pre_whole_pages.fn a0 a1 a2 a3 a4 a5 a6).2.1 = fun _ => 1#1)
    (h3 : (Cert.Pre_whole_pages.fn a0 a1 a2 a3 a4 a5 a6).2.2.1 = fun _ => 1#1)
    (h4 : (Cert.Pre_whole_pages.fn a0 a1 a2 a3 a4 a5 a6).2.2.2.1 = fun _ => 1#1)
    (h5 : (Cert.Pre_whole_pages.fn a0 a1 a2 a3 a4 a5 a6).2.2.2.2 = fun _ => 1#1) :
    ∃ page row dp, Whole a0 a3 a6 page row dp := by
  have k1 : ∀ s : Fin 16, (a0 (ix2 0 ⟨s.val * 128, by omega⟩)).toNat < 4096 ∧ (a0 (ix2 0 ⟨s.val * 128, by omega⟩)).toNat % 128 = 0 := by
    intro s
    have h := congrFun h1 (ix2 s 0)
    pointwise [Cert.Pre_whole_pages.fn, fn_part1, fn_part2] at h
    revert h
    generalize a0 _ = x
    intro h
    rw [WordCmp.andi_sge_zero_slt_ofNat (by decide), WordCmp.cmpi_eq_eq, WordCmp.andi_ofBool, WordCmp.ofBool_eq_one_iff, Bool.and_eq_true, decide_eq_true_eq, decide_eq_true_eq] at h
    refine ⟨h.1, ?_⟩
    have h' := congrArg BitVec.toNat h.2
    rw [IntOp.andi, BitVec.toNat_and, show (127#32).toNat = 2 ^ 7 - 1 from rfl, Nat.and_two_pow_sub_one_eq_mod] at h'
    exact h'
  have k2 : ∀ (s : Fin 16) (j : Fin 128), (a0 (ix2 0 ⟨s.val * 128 + j.val, by omega⟩)).toNat = (a0 (ix2 0 ⟨s.val * 128, by omega⟩)).toNat + j.val := by
    intro s j
    have h := congrFun h2 (ix2 s j)
    pointwise [Cert.Pre_whole_pages.fn, fn_part1, fn_part2] at h
    have h' := (k1 s).1
    rw [WordCmp.cmpi_eq_eq, WordCmp.ofBool_decide_eq_one_iff] at h
    rw [h, IntOp.addi, BitVec.toNat_add, BitVec.toNat_ofNat]
    omega
  have k3 : ∀ b : Fin 8, (a3 (ix1 b)).toNat < 8 := by
    intro b
    have h := congrFun h3 (ix1 b)
    pointwise [Cert.Pre_whole_pages.fn, fn_part1, fn_part2] at h
    rw [WordCmp.andi_sge_zero_slt_ofNat (by decide)] at h
    exact (WordCmp.ofBool_decide_eq_one_iff _).mp h
  have k4 : ∀ (b : Fin 8) (p : Fin 32), (a6 (ix2 b p)).toNat < 256 := by
    intro b p
    have h := congrFun h4 (ix2 b p)
    pointwise [Cert.Pre_whole_pages.fn, fn_part1, fn_part2] at h
    rw [WordCmp.andi_sge_zero_slt_ofNat (by decide)] at h
    exact (WordCmp.ofBool_decide_eq_one_iff _).mp h
  refine ⟨fun s => ⟨(a0 (ix2 0 ⟨s.val * 128, by omega⟩)).toNat / 128, by have := (k1 s).1; omega⟩, fun b => ⟨_, k3 b⟩,
    fun n => ⟨_, k4 ⟨_, k3 ⟨n.val / 16, by omega⟩⟩ ⟨(a0 (ix2 0 ⟨n.val % 16 * 128, by omega⟩)).toNat / 128, by have := (k1 ⟨n.val % 16, by omega⟩).1; simp only at this; omega⟩⟩, ?_, fun _ => rfl, fun _ => rfl, ?_⟩
  · intro s j
    have := k1 s
    rw [k2]
    show _ = _ / 128 * 128 + _
    omega
  · intro n n' hn
    by_contra hne
    have h := congrFun h5 (ix2 n n')
    pointwise [Cert.Pre_whole_pages.fn, fn_part1, fn_part2] at h
    have key := fun b s rows cols hr hc => dest_at (pos := a0) (bi := a3) (pt := a6) (page := fun s => ⟨(a0 (ix2 0 ⟨s.val * 128, by omega⟩)).toNat / 128, by have := (k1 s).1; omega⟩)
      (row := fun b => ⟨_, k3 b⟩) (fun _ => rfl) (fun s => (k1 s).1) (fun _ => rfl) b s rows cols concatenates_S8x16x1_S8x16x1_S8x16x2_d2
      gather_S8x32_S8x16x2_S8x16_n_01_n_n_01_2_11.wf gather_S8x32_S8x16x2_S8x16_n_01_n_n_01_2_11 rfl hr hc
    rw [key ⟨n.val / 16, by omega⟩ ⟨n.val % 16, by omega⟩ _ _ ?_ ?_, key ⟨n'.val / 16, by omega⟩ ⟨n'.val % 16, by omega⟩ _ _ ?_ ?_] at h
    · rw [WordCmp.cmpi_eq_eq_toNat, WordCmp.cmpi_ne_eq_toNat, WordCmp.ori_ofBool, WordCmp.ofBool_eq_one_iff, Bool.or_eq_true, decide_eq_true_eq, decide_eq_true_eq] at h
      rcases h with h | h
      · rw [BitVec.toNat_ofNat, BitVec.toNat_ofNat] at h
        exact hne (Fin.ext (by omega))
      · exact h (Fin.mk.inj hn)
    all_goals pointwise
    all_goals simp only [Nat.mul_comm]

end Cert.Proof.Fill

end
-- ==== Proof.Split.lean ====
/-
  The kernel's nine arrays, whole, are the thirty-two tiles' holdings: each tile has one of thirty-two shares of every table and
  every source, and the scatter words of its part of the tables name its rows of the two results. Those words, all tiles' and both
  tables' together, name each row once.
-/
module

public import proofs.«01_k».proof.Proof.Tile

@[expose] public section

noncomputable section

namespace Cert.Proof.Fill

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The tiles by core and subcore -/

def coordsV (c : Fin (grid0.bound 0)) (s : Fin (grid0.bound 1)) : grid0.Coords :=
  fun | 0 => c | 1 => s | ⟨_ + 2, h⟩ => absurd h (Nat.not_lt.2 (Nat.le_add_left _ _))

/-- The tile's number, from its core and its subcore. -/
def widEquiv : Fin 2 × Fin 16 ≃ Fin 32 where
  toFun p := ⟨2 * p.2.val + p.1.val, by omega⟩
  invFun w := (⟨w.val % 2, by omega⟩, ⟨w.val / 2, by omega⟩)
  left_inv p := by
    obtain ⟨a, b⟩ := p
    refine Prod.ext (Fin.ext ?_) (Fin.ext ?_)
    · show (2 * b.val + a.val) % 2 = a.val; omega
    · show (2 * b.val + a.val) / 2 = b.val; omega
  right_inv w := Fin.ext (by show 2 * (w.val / 2) + w.val % 2 = w.val; omega)

variable (A : Arrays F)

/-! ## The scatter words name every row once -/

theorem card_slots : Fintype.card (Fin 2 × S32x32x128.Idx) = 262144 := by
  rw [Fintype.card_prod, Fintype.card_fin, Shape.card_idx]
  rfl

variable {A} in
/-- Every row is named by a word of the tables. -/
theorem tgt_surj (hA : A.OK) (R : Fin 262144) : ∃ k x, (A.tgt k x).toNat = R.val := by
  have hinj : Function.Injective fun p : Fin 2 × S32x32x128.Idx => (⟨(A.tgt p.1 p.2).toNat, hA.tgt_lt p.1 p.2⟩ : Fin 262144) :=
    fun p p' h => hA.tgt_inj (show (A.tgt p.1 p.2).toNat = (A.tgt p'.1 p'.2).toNat from Fin.mk.inj h)
  have hb := (Fintype.bijective_iff_injective_and_card _).mpr ⟨hinj, card_slots.trans (Fintype.card_fin _).symm⟩
  obtain ⟨p, hp⟩ := hb.2 R
  exact ⟨p.1, p.2, congrArg Fin.val hp⟩

/-- The rows of one tile, one table and one row of that table. -/
abbrev outSet' (p : Fin 32 × Fin 2 × Fin 32) : Finset S262144x128.Idx := outSet A p.2.1 p.1 p.2.2

variable {A} in
theorem outSet_disjoint (hA : A.OK) (p p' : Fin 32 × Fin 2 × Fin 32) (h : p ≠ p') : Disjoint (outSet' A p) (outSet' A p') := by
  rw [Finset.disjoint_left]
  intro i hi hi'
  obtain ⟨x, hx⟩ := (Finset.mem_filter.mp hi).2
  obtain ⟨x', hx'⟩ := (Finset.mem_filter.mp hi').2
  obtain ⟨w, k, r⟩ := p
  obtain ⟨w', k', r'⟩ := p'
  have e := hA.tgt_inj (a₁ := (k, ix3 w r x)) (a₂ := (k', ix3 w' r' x')) (hx.symm.trans hx')
  have e1 : k = k' := congrArg Prod.fst e
  have e2 : (ix3 w r x : S32x32x128.Idx) = ix3 w' r' x' := congrArg Prod.snd e
  have e3 : w = w' := congrFun e2 (0 : Fin 3)
  have e4 : r = r' := congrFun e2 (1 : Fin 3)
  exact h (by rw [e1, e3, e4])
variable {A} in
theorem outSet_cover (hA : A.OK) : Finset.univ.biUnion (outSet' A) = Finset.univ := by
  refine Finset.eq_univ_iff_forall.mpr fun i => ?_
  rw [Finset.mem_biUnion]
  have hi : (i 0).val < 262144 := (i 0).isLt
  obtain ⟨k, x, h⟩ := tgt_surj hA ⟨(i 0).val, hi⟩
  have e : (A.tgt k x).toNat = (A.tgt k (ix3 (x 0) (x 1) (x 2))).toNat := congrArg (fun y => (A.tgt k y).toNat) (eq_ix3 x)
  exact ⟨(x 0, k, x 1), Finset.mem_univ _, Finset.mem_filter.mpr ⟨Finset.mem_univ _, x 2, h.symm.trans e⟩⟩

/-- An array whole is its parts, by tile, table and row of the table. -/
theorem out_split {ℓ : Loc nD τ sig} (X : Fin 32 × Fin 2 × Fin 32 → Finset (Idx ℓ)) (hd : ∀ p p', p ≠ p' → Disjoint (X p) (X p'))
    (hu : Finset.univ.biUnion X = Finset.univ) (f : Buf (Elt F) ℓ) :
    (ℓ ↦{fullShare} f : sProp (MM F)) = bigSep Finset.univ fun w : Fin 32 => bigSep Finset.univ fun k : Fin 2 => bigSep Finset.univ fun r : Fin 32 =>
      ℓ ↦[X (w, k, r)]{fullShare} f := by
  rw [← hu, pointsTo_biUnion Finset.univ X fun p _ p' _ h => hd p p' h, bigSep_univ_prod]
  exact bigSep_congr fun w _ => bigSep_univ_prod _

/-! ## The arrays -/

/-- The kernel's nine arrays, whole, the results at their old or their new contents. -/
def whole (d : Dev nD) (new : Bool) : sProp (MM F) :=
  iprop(((SparseCore.T d).loc main_v70 ↦{fullShare} A.wg) ∗ ((SparseCore.T d).loc main_v71 ↦{fullShare} A.wo) ∗ ((SparseCore.T d).loc main_v72 ↦{fullShare} A.pa)
    ∗ (((SparseCore.T d).loc main_v73 ↦{fullShare} A.kv) ∗ ((SparseCore.T d).loc main_v75 ↦{fullShare} A.kc)
      ∗ ((SparseCore.T d).loc main_v74 ↦{fullShare} A.vv) ∗ ((SparseCore.T d).loc main_v76 ↦{fullShare} A.vc))
    ∗ (((SparseCore.T d).loc main_v77_0 ↦{fullShare} A.k new) ∗ ((SparseCore.T d).loc main_v77_1 ↦{fullShare} A.v new)))

/-- Tile `w`'s holding, at the arrays' names on the device. -/
def tileAt (d : Dev nD) (new : Bool) (w : Fin 32) : sProp (MM F) :=
  iprop(((SparseCore.T d).loc main_v70 ↦[Finset.univ]{pieceOf fullShare 32 (by decide) w} A.wg)
    ∗ ((SparseCore.T d).loc main_v71 ↦[Finset.univ]{pieceOf fullShare 32 (by decide) w} A.wo)
    ∗ ((SparseCore.T d).loc main_v72 ↦[Finset.univ]{pieceOf fullShare 32 (by decide) w} A.pa)
    ∗ (((SparseCore.T d).loc main_v73 ↦[Finset.univ]{pieceOf fullShare 32 (by decide) w} A.kv)
      ∗ ((SparseCore.T d).loc main_v75 ↦[Finset.univ]{pieceOf fullShare 32 (by decide) w} A.kc)
      ∗ ((SparseCore.T d).loc main_v74 ↦[Finset.univ]{pieceOf fullShare 32 (by decide) w} A.vv)
      ∗ ((SparseCore.T d).loc main_v76 ↦[Finset.univ]{pieceOf fullShare 32 (by decide) w} A.vc))
    ∗ ((bigSep Finset.univ fun k : Fin 2 => bigSep Finset.univ fun r : Fin 32 => (SparseCore.T d).loc main_v77_0 ↦[outSet A k w r]{fullShare} A.k new)
      ∗ (bigSep Finset.univ fun k : Fin 2 => bigSep Finset.univ fun r : Fin 32 => (SparseCore.T d).loc main_v77_1 ↦[outSet A k w r]{fullShare} A.v new)))

theorem tile_eq (d : Dev nD) (L : grid0.Coords) (new : Bool) : tile A d L new = tileAt A d new (wid L) := rfl

variable {A} in
/-- The arrays whole are the tiles' holdings. -/
theorem whole_eq (hA : A.OK) (d : Dev nD) (new : Bool) :
    whole A d new = bigSep Finset.univ fun c : Fin 2 => bigSep Finset.univ fun s : Fin 16 => tile A d (coordsV c s) new := by
  have h : (bigSep Finset.univ fun c : Fin 2 => bigSep Finset.univ fun s : Fin 16 => tile A d (coordsV c s) new)
      = bigSep Finset.univ (tileAt A d new) := by
    rw [bigSep_univ_equiv widEquiv, bigSep_univ_prod]
    rfl
  rw [h]
  unfold whole tileAt
  rw [bigSep_sep', bigSep_sep', bigSep_sep', bigSep_sep', bigSep_sep', bigSep_sep', bigSep_sep', bigSep_sep',
    ← pointsTo_piecesOf, ← pointsTo_piecesOf, ← pointsTo_piecesOf, ← pointsTo_piecesOf, ← pointsTo_piecesOf, ← pointsTo_piecesOf, ← pointsTo_piecesOf,
    out_split (ℓ := (SparseCore.T d).loc main_v77_0) (outSet' A) (outSet_disjoint hA) (outSet_cover hA),
    out_split (ℓ := (SparseCore.T d).loc main_v77_1) (outSet' A) (outSet_disjoint hA) (outSet_cover hA)]

end Cert.Proof.Fill

end
-- ==== Proof.Launch.lean ====
/-
  The program's run from a launch memory whose index tables name rows as the kernel needs: the host operations before the kernel,
  the kernel's launch on all the tiles, the host operations after it. It ends with every array of the TensorCore at what the host
  operations and the kernel leave in it, and with every semaphore back at zero.
-/
module

public import proofs.«01_k».proof.Proof.Split
public import proofs.«01_k».proof.Proof.HostOps
public import Idealize.ShloMosaic.Lib.Pipeline.Frame
public import Idealize.ShloMosaic.Lib.Pipeline.FrameTail
public import Idealize.ShloMosaic.Lib.SparseCore.Quiescent

@[expose] public section

noncomputable section

namespace Cert.Proof.Fill

open Cert.KernelIdeal Cert.KernelIdeal.Gen
open Idealize.ShloMosaic Idealize.ShloMosaic.ValueIdx Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev D : Defs nD τ sig (Elt F) (ΛP (F := F)) := Pipeline.defs pcfgs defs₀
abbrev 𝒱 : Variants := 𝒱₀.lift
abbrev v₀ : 𝒱.V := Sum.inl none
abbrev EH : Emb UH 𝕄 := embL

/-! ## The arrays from the launch memory -/

variable (m : (ℓ : Loc nD τ sig) → Buf (Elt F) ℓ) (ρ : Dev nD → PrngReg)

/-- The device's buffers at the launch. -/
abbrev V0 (d : Dev nD) : Valuation τ sig (Elt F) := fun b => m (d, b)
/-- The device's buffers at the kernel's launch. -/
abbrev Vpre (d : Dev nD) : Valuation τ sig (Elt F) := StableHlo.after preOps (V0 m d)

open Classical in
/-- A result's new contents: at a row a written word names, the source row the gather word in the same place names; at any other
    row, the old cache's row. -/
def filled (wg wo : S32x32x128.Idx → Elt F .i32) (src : S131072x128.Idx → Elt F .f32) (old : S262144x128.Idx → Elt F .f32) :
    S262144x128.Idx → Elt F .f32 := fun i =>
  if h : ∃ x, (wo x).toNat = (i 0).val ∧ (wg x).toNat < 131072 then src (ix2 ⟨(wg h.choose).toNat, h.choose_spec.2⟩ (i 1)) else old i

/-- The kernel's arrays from the tables, the sources and the results' old contents: the results' new contents are those the tables
    ask for. -/
def mkArrays (wg wo pa : S32x32x128.Idx → Elt F .i32) (kv vv : S131072x128.Idx → Elt F .f32) (kc vc ko vo : S262144x128.Idx → Elt F .f32) : Arrays F where
  wg := wg
  wo := wo
  pa := pa
  kv := kv
  vv := vv
  kc := kc
  vc := vc
  ko := ko
  vo := vo
  tk := filled (F := F) wg wo kv kc
  tv := filled (F := F) wg wo vv vc

/-- The kernel's arrays as the host operations leave them. -/
def arrays (d : Dev nD) : Arrays F :=
  mkArrays (Vpre m d main_v70) (Vpre m d main_v71) (Vpre m d main_v72) (Vpre m d main_v73) (Vpre m d main_v74) (Vpre m d main_v75) (Vpre m d main_v76)
    (Vpre m d main_v77_0) (Vpre m d main_v77_1)

/-- The device's buffers after the kernel. -/
def Vpost (d : Dev nD) : Valuation τ sig (Elt F) :=
  Function.update (Function.update (Vpre m d) main_v77_0 (arrays m d).tk) main_v77_1 (arrays m d).tv
/-- The device's buffers at the end. -/
abbrev Vend (d : Dev nD) : Valuation τ sig (Elt F) := StableHlo.after outOps (Vpost m d)

/-- The words of the tables name rows, and the scatter words each row once. -/
structure TabsOK (wg wo pa : S32x32x128.Idx → Elt F .i32) : Prop where
  wg_lt : ∀ x, (wg x).toNat < 131072
  wo_lt : ∀ x, (wo x).toNat < 262144
  pa_lt : ∀ x, (pa x).toNat < 262144
  wo_inj : ∀ x x', (wo x).toNat = (wo x').toNat → x = x'
  pa_inj : ∀ x x', (pa x).toNat = (pa x').toNat → x = x'
  apart : ∀ x x', (wo x).toNat ≠ (pa x').toNat

section Filled

variable {wg wo pa : S32x32x128.Idx → Elt F .i32} (h : TabsOK wg wo pa) (src : S131072x128.Idx → Elt F .f32) (old : S262144x128.Idx → Elt F .f32)
include h

theorem filled_w (x : S32x32x128.Idx) (i : S262144x128.Idx) (i' : S131072x128.Idx) (h0 : (i 0).val = (wo x).toNat)
    (h1 : (i' 0).val = (wg x).toNat) (h2 : (i' 1).val = (i 1).val) : filled wg wo src old i = src i' := by
  have hx : ∃ x, (wo x).toNat = (i 0).val ∧ (wg x).toNat < 131072 := ⟨x, h0.symm, h.wg_lt x⟩
  unfold filled
  rw [dif_pos hx]
  have e : hx.choose = x := h.wo_inj _ _ (hx.choose_spec.1.trans h0)
  refine congrArg src (funext fun (b : Fin 2) => ?_)
  match b with
  | 0 => exact Fin.ext (show (wg hx.choose).toNat = (i' 0).val by rw [e, h1])
  | 1 => exact Fin.ext h2.symm
theorem filled_p (x : S32x32x128.Idx) (i : S262144x128.Idx) (h0 : (i 0).val = (pa x).toNat) : filled wg wo src old i = old i := by
  have hx : ¬ ∃ x, (wo x).toNat = (i 0).val ∧ (wg x).toNat < 131072 := fun ⟨x', e, _⟩ => h.apart x' x (e.trans h0)
  unfold filled
  rw [dif_neg hx]

theorem mkArrays_ok (kv vv : S131072x128.Idx → Elt F .f32) (kc vc ko vo : S262144x128.Idx → Elt F .f32) : (mkArrays wg wo pa kv vv kc vc ko vo).OK where
  wg_lt := h.wg_lt
  tgt_lt k x := match k with
    | 0 => h.wo_lt x
    | 1 => h.pa_lt x
  tgt_inj := by
    rintro ⟨k, x⟩ ⟨k', x'⟩ e
    match k, k' with
    | 0, 0 => exact congrArg (Prod.mk 0) (h.wo_inj x x' e)
    | 1, 1 => exact congrArg (Prod.mk 1) (h.pa_inj x x' e)
    | 0, 1 => exact absurd e (h.apart x x')
    | 1, 0 => exact absurd e.symm (h.apart x' x)
  tk_w := filled_w h _ _
  tk_p := filled_p h _ _
  tv_w := filled_w h _ _
  tv_p := filled_p h _ _

end Filled

/-- The tables the host operations compute are as the kernel needs, on every device. -/
def Tabs : Prop := ∀ d : Dev nD, TabsOK (F := F) (Vpre m d main_v70) (Vpre m d main_v71) (Vpre m d main_v72)

variable {m} in
theorem arrays_ok (hT : Tabs m) (d : Dev nD) : (arrays m d).OK := mkArrays_ok (hT d) ..

section Hand

variable (A : Dev nD → Arrays F)

/-! ## What the threads hand each other -/

def P : (K (F := F)).Pay (nD := nD) (Val := Elt F) (Name := ℕ) (U := UU) where
  st := fun q d c => match q with | 0 => bigSep Finset.univ fun s : Fin 16 => tile (A d) d (coordsV c s) false
  dn := fun q d c => match q with | 0 => bigSep Finset.univ fun s : Fin 16 => tile (A d) d (coordsV c s) true
  go := fun q d c i => match q with | 0 => tile (A d) d (coordsV c i) false
  td := fun q d c i => match q with | 0 => tile (A d) d (coordsV c i) true
  x := fun _ _ => iprop(emp)

omit A in
instance tile_storable (A : Arrays F) (d : Dev nD) (L : grid0.Coords) (new : Bool) : BI.Storable (upEmb : UEmb _ 𝕄) (tile A d L new) := by
  unfold tile srcs outs
  infer_instance

omit A in
theorem defs₀_vector (c : Fin τ.nSC) (s : Fin τ.nSub) :
    defs₀ (F := F) (.scVector c s) 0 () = SparseCore.onTile hcore0 hsub0 (fun c s => body (F := F) (coordsV c s)) ⟨⟩ c s := rfl

attribute [local irreducible] tile body

omit A in
theorem row_storable (A : Arrays F) (d : Dev nD) (c : Fin (grid0.bound 0)) (new : Bool) :
    BI.Storable (upEmb : UEmb _ 𝕄) (bigSep Finset.univ fun s : Fin (grid0.bound 1) => tile A d (coordsV c s) new) := inferInstance

instance P_storable : (P A).IsStorable where
  st q d c := match q with
    | 0 => row_storable (A d) d c false
  dn q d c := match q with
    | 0 => row_storable (A d) d c true
  go q d c i := match q with | 0 => tile_storable (A d) d (coordsV c i) false
  td q d c i := match q with | 0 => tile_storable (A d) d (coordsV c i) true

/-! ## The obligation of a tile -/

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hA : ∀ d, (A d).OK) : (K (F := F)).TileObl (D (F := F)) 𝒱 (P A) v₀ 0 := by
  intro d c i O W hO _ _
  simp only [show (P A).ox = fun _ _ => 0 from rfl, add_zero]
  rw [show (P A).go 0 d c i = tile (A d) d (coordsV c i) false from rfl, show (P A).td 0 d c i = tile (A d) d (coordsV c i) true from rfl]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact BI.Entails.trans (tile_body (A := A d) d (coordsV ⟨_, hci.1⟩ ⟨_, hci.2⟩) facts (hA d) O W hO) (wp_mono frame _ _ fun _ => obl_post)

theorem vecSplit : (K (F := F)).VecSplit' (P A) 0 := by
  intro d c
  show (bigSep Finset.univ fun s : Fin 16 => tile (A d) d (coordsV c s) false) ⊢ |={Set.univ}=> iprop(
      (bigSep Finset.univ fun s : Fin 16 => tile (A d) d (coordsV c s) false)
      ∗ ((bigSep Finset.univ fun s : Fin 16 => tile (A d) d (coordsV c s) true)
          -∗ bigSep Finset.univ fun s : Fin 16 => tile (A d) d (coordsV c s) true))
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P A).x q thr) = bigSep Finset.univ fun _ => iprop(emp) from
    bigSep_congr fun _ _ => bigSep_univ_of_subsingleton (0 : Fin 1), bigSep_emp']
  iempintro

end Hand

/-! ## @main on the TensorCore -/

/-- The kernel's nine arrays. -/
abbrev callList : List (Ref sig .tc) := [main_v70, main_v71, main_v72, main_v73, main_v75, main_v74, main_v76, main_v77_0, main_v77_1]
def callRefs : Finset (DevRef τ sig) := callList.toFinset.map ⟨Proc.devRef (τ := τ) .tc, Proc.devRef_injective _⟩

theorem callRefs_sub : callRefs ⊆ Pipeline.ucRefs τ sig := by
  intro b hb
  obtain ⟨r, hr, rfl⟩ := Finset.mem_map.mp hb
  refine Pipeline.devRef_mem_ucRefs ?_
  revert r
  decide

theorem held_call (d : Dev nD) (W : Valuation τ sig (Elt F)) :
    (StableHlo.held (SparseCore.T d : Thread nD τ) callRefs W : sProp 𝕄)
      = iprop(((SparseCore.T d).loc main_v70 ↦{fullShare} W main_v70) ∗ ((SparseCore.T d).loc main_v71 ↦{fullShare} W main_v71)
        ∗ ((SparseCore.T d).loc main_v72 ↦{fullShare} W main_v72) ∗ ((SparseCore.T d).loc main_v73 ↦{fullShare} W main_v73)
        ∗ ((SparseCore.T d).loc main_v75 ↦{fullShare} W main_v75) ∗ ((SparseCore.T d).loc main_v74 ↦{fullShare} W main_v74)
        ∗ ((SparseCore.T d).loc main_v76 ↦{fullShare} W main_v76) ∗ ((SparseCore.T d).loc main_v77_0 ↦{fullShare} W main_v77_0)
        ∗ ((SparseCore.T d).loc main_v77_1 ↦{fullShare} W main_v77_1)) := by
  unfold StableHlo.held callRefs
  rw [BI.bigSep_map, show callList.toFinset = insert main_v70 (insert main_v71 (insert main_v72 (insert main_v73 (insert main_v75 (insert main_v74 (insert main_v76
    (insert main_v77_0 {main_v77_1}))))))) by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

/-- Nine in a row, grouped as the kernel's arrays are. -/
theorem group9 (a b c e f g h i j : sProp 𝕄) :
    iprop(a ∗ b ∗ c ∗ e ∗ f ∗ g ∗ h ∗ i ∗ j) = iprop(a ∗ b ∗ c ∗ (e ∗ f ∗ g ∗ h) ∗ (i ∗ j)) := by
  refine eq_of_entails ?_ ?_
  · iintro ⟨Ha, Hb, Hc, He, Hf, Hg, Hh, Hi, Hj⟩
    iframe
  · iintro ⟨Ha, Hb, Hc, ⟨He, Hf, Hg, Hh⟩, Hi, Hj⟩
    iframe

theorem Vpost_v0 (d : Dev nD) : Vpost m d main_v77_0 = (arrays m d).tk := by
  unfold Vpost
  rw [Function.update_of_ne (by decide), Function.update_self]
theorem Vpost_v1 (d : Dev nD) : Vpost m d main_v77_1 = (arrays m d).tv := by
  unfold Vpost
  rw [Function.update_self]
theorem Vpost_ne (d : Dev nD) (b : DevRef τ sig) (h0 : b ≠ main_v77_0) (h1 : b ≠ main_v77_1) : Vpost m d b = Vpre m d b := by
  unfold Vpost
  rw [Function.update_of_ne h1, Function.update_of_ne h0]

theorem call_pre (d : Dev nD) : (StableHlo.held (SparseCore.T d : Thread nD τ) callRefs (Vpre m d) : sProp 𝕄) = whole (arrays m d) d false := by
  rw [held_call, group9]
  rfl
theorem call_post (d : Dev nD) : (StableHlo.held (SparseCore.T d : Thread nD τ) callRefs (Vpost m d) : sProp 𝕄) = whole (arrays m d) d true := by
  rw [held_call, group9, Vpost_v0, Vpost_v1, Vpost_ne m d main_v70 (by decide) (by decide), Vpost_ne m d main_v71 (by decide) (by decide),
    Vpost_ne m d main_v72 (by decide) (by decide), Vpost_ne m d main_v73 (by decide) (by decide), Vpost_ne m d main_v74 (by decide) (by decide),
    Vpost_ne m d main_v75 (by decide) (by decide), Vpost_ne m d main_v76 (by decide) (by decide)]
  rfl
theorem rest_eq (d : Dev nD) : (StableHlo.held (SparseCore.T d : Thread nD τ) (Pipeline.ucRefs τ sig \ callRefs) (Vpre m d) : sProp 𝕄)
    = StableHlo.held (SparseCore.T d : Thread nD τ) (Pipeline.ucRefs τ sig \ callRefs) (Vpost m d) := by
  refine StableHlo.held_congr _ fun b hb => (Vpost_ne m d b ?_ ?_).symm
  · rintro rfl
    exact (Finset.mem_sdiff.mp hb).2 (Finset.mem_map_of_mem _ (by decide))
  · rintro rfl
    exact (Finset.mem_sdiff.mp hb).2 (Finset.mem_map_of_mem _ (by decide))

/-- The arrays of the TensorCore at the end. -/
abbrev FIN (d : Dev nD) : sProp 𝕄 := StableHlo.held (SparseCore.T d : Thread nD τ) (Pipeline.ucRefs τ sig) (Vend m d)

variable {m} in
theorem st0_eq (hT : Tabs m) (d : Dev nD) : (bigSep Finset.univ fun c : Fin ((K (F := F)).nCore 0) => (P (arrays m)).st 0 d c) = whole (arrays m d) d false :=
  (whole_eq (arrays_ok hT d) d false).symm
variable {m} in
theorem dn0_eq (hT : Tabs m) (d : Dev nD) : (bigSep Finset.univ fun c : Fin ((K (F := F)).nCore 0) => (P (arrays m)).dn 0 d c) = whole (arrays m d) d true :=
  (whole_eq (arrays_ok hT d) d true).symm

theorem pre_sub : ∀ op ∈ (preOps : List (HloOp τ sig (Elt F))), op.bufs ⊆ Pipeline.ucRefs τ sig := fun op h =>
  Pipeline.sub_ucRefs op (by
    revert op
    refine List.forall_iff_forall_mem.mp ?_
    simp [preOps, pagesOps, markOps, axesOps, tablesOps, flatOps])
theorem pre_fresh : ∀ op ∈ (preOps : List (HloOp τ sig (Elt F))), op.fresh = ∅ := by
  refine List.forall_iff_forall_mem.mp ?_
  simp only [preOps, pagesOps, markOps, axesOps, tablesOps, flatOps, List.cons_append, List.nil_append, List.forall_cons]
  repeat' constructor
theorem out_sub : ∀ op ∈ (outOps : List (HloOp τ sig (Elt F))), op.bufs ⊆ Pipeline.ucRefs τ sig := fun op h =>
  Pipeline.sub_ucRefs op (by
    revert op
    refine List.forall_iff_forall_mem.mp ?_
    simp [outOps])
theorem out_fresh : ∀ op ∈ (outOps : List (HloOp τ sig (Elt F))), op.fresh = ∅ := by
  refine List.forall_iff_forall_mem.mp ?_
  simp only [outOps, List.forall_cons]
  repeat' constructor

variable {m} in
/-- @main on device `d`'s TensorCore: from the launch contents of its arrays to their contents at the end. -/
theorem hmain (hT : Tabs m) (κ : GSem nD τ sig → ℕ) (d : Dev nD) :
    iprop((K (F := F)).ctx EH (P (arrays m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (SparseCore.T d : Thread nD τ) (Pipeline.ucRefs τ sig) (V0 m d) from
    Pipeline.unscopedBufs_held d (V0 m d)]
  iintro ⟨#Hctx, Hst, ⟨Hb, Hh, Hts, -⟩, -⟩
  iapply (StableHlo.wp_seq 𝒱 none Set.univ d (Pipeline.ucRefs τ sig) _ preOps pre_sub pre_fresh (V0 m d)) $$ [Hb Hh]
  · isplitl [Hb] <;> iassumption
  iintro ⟨Hb, Hh⟩
  ihave Hh := (Entails.of_eq (StableHlo.held_sub_split _ callRefs_sub (Vpre m d))) $$ Hh
  icases Hh with ⟨Hc, Hr⟩
  ihave Hc := (Entails.of_eq ((call_pre m d).trans (st0_eq hT d).symm)) $$ Hc
  ihave Hr := (Entails.of_eq (rest_eq m d)) $$ Hr
  rw [wp_bind]
  iapply ((K (F := F)).wp_run (D (F := F)) 𝒱 (EH := EH) (P := P (arrays m)) κ d 0) $$ [Hst Hc Hr Hb Hts]
  isplitr; · iexact Hctx
  isplitl [Hst]; · iexact Hst
  isplitl [Hc]; · iexact Hc
  iintro ⟨Hst, Hc⟩
  ihave Hc := (Entails.of_eq ((dn0_eq hT d).trans (call_post m d).symm)) $$ Hc
  ihave Hh := (Entails.of_eq (StableHlo.held_sub_split _ callRefs_sub (Vpost m d)).symm) $$ [Hc Hr]
  · isplitl [Hc] <;> iassumption
  rw [← bind_pure (StableHlo.seq outOps)]
  iapply (StableHlo.wp_seq 𝒱 none Set.univ d (Pipeline.ucRefs τ sig) _ outOps out_sub out_fresh (Vpost m d)) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-! ## The run -/

def fq (d : Dev nD) (s' : Phys nD τ sig (Elt F)) : Prop := ∀ b ∈ Pipeline.ucRefs τ sig, s'.mem.mem (d, b) = Vend m d b

theorem hfin (d : Dev nD) (s' : Phys nD τ sig (Elt F)) : iprop(FIN m d ∗ SI s') ⊢ (⌜fq m d s'⌝ : sProp 𝕄) := by
  unfold FIN StableHlo.held
  iintro ⟨H, HSI⟩
  iapply (SI_pointsTo_bufs_agree (st := s') (c := d) (qs := fun _ => fullShare) (F := Vend m d) (Pipeline.ucRefs τ sig))
  isplitl [HSI]; · iexact HSI
  iexact H

def QC : PUnit × MemSt nD τ sig (Elt F) → Prop := fun r =>
  (∀ c : Dev nD, ∀ b ∈ Pipeline.ucRefs τ sig, r.2.mem (c, b) = Vend m c b) ∧ r.2.sem = fun _ => 0

/-- The run: every array of the TensorCore ends at what the program leaves in it, every semaphore at zero. -/
theorem run_main [∀ e, Nonempty (Elt F e)] (hT : Tabs m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (arrays m)) (A := ∅) facts v₀
    (fun q hq => match q with | 0 => nomatch hq)
    (fun q _ => match q with | 0 => tileObl (arrays m) (arrays_ok hT))
    (fun q _ => match q with | 0 => SparseCore.Cfg.VecSplit.of_plain (vecSplit (arrays m)))
    m ρ main (fun _ => iprop(emp)) (FIN m) (u₀ (F := F)) (sep_elim_left.trans (hu₀ (arrays m))) (hmain ρ hT) (fq m) (hfin m) (QC m) (fun _ h hz => ⟨h, hz⟩)

end Cert.Proof.Fill

end
-- ==== Proof.Tables.lean ====
/-
  The three tables of row numbers that the kernel works from, in plain numbers, under the precondition.
-/
module

public import proofs.«01_k».proof.Proof.Mark
public import proofs.«01_k».proof.Proof.Pages
public import proofs.«01_k».proof.Proof.Launch

@[expose] public section

set_option maxRecDepth 65536

noncomputable section

namespace Cert.Proof.Fill

open Cert.KernelIdeal Cert.KernelIdeal.Gen Idealize.ShloMosaic Idealize.ShloMosaic.TcCoe Idealize.ShloMosaic.StableHlo Idealize.SL.Sem

variable {F : FTy → Type} [FloatOps F]

/-- The table of the blocks' pages holds the page of each block. -/
theorem pages_v22 (V : Valuation τ sig (Elt F)) {page : Fin 16 → Fin 32} {row : Fin 8 → Fin 8} {dp : Fin 128 → Fin 256}
    (W : Whole (V main_arg0) (V main_arg3) (V main_arg6) page row dp) (n : Fin 128) : (StableHlo.after pagesOps V main_v22 (ix1 n)).toNat = (dp n).val := by
  rw [← W.pt_at]
  refine congrArg BitVec.toNat ?_
  have hp : ∀ s : Fin 16, (V main_arg0 (ix2 0 ⟨s.val * 128, by omega⟩)).toNat = (page s).val * 128 := fun s => W.pos_at s 0
  have key := fun b s rows cols hr hc => dest_at (pos := V main_arg0) (bi := V main_arg3) (pt := V main_arg6) (page := page) (row := row)
    (fun s => by rw [hp]; omega) (fun s => by rw [hp]; have := (page s).isLt; omega) W.bi_at b s rows cols concatenates_S8x16x1_S8x16x1_S8x16x2_d2
    gather_S8x32_S8x16x2_S8x16_n_01_n_n_01_2_11.wf gather_S8x32_S8x16x2_S8x16_n_01_n_n_01_2_11 rfl hr hc
  after_reads_simp
  pointwise
  rw [key _ _ _ _ ?_ ?_]
  all_goals after_reads_at
  all_goals simp only [Nat.mul_comm]

/-- An entry of a table is the one with its page number and row number. -/
theorem entry_ext (x x' : S32x32x128.Idx) (h : (pg x).val = (pg x').val) (h' : (rw' x).val = (rw' x').val) : x = x' := by
  have e : ∀ y : S32x32x128.Idx, (pg y).val = (y 0).val * 4 + (y 1).val / 8 := fun _ => rfl
  have e' : ∀ y : S32x32x128.Idx, (rw' y).val = (y 1).val % 8 * 128 + (y 2).val := fun _ => rfl
  rw [e, e] at h
  rw [e', e'] at h'
  have b1 : (x 1).val < 32 := (x 1).isLt
  have b2 : (x' 1).val < 32 := (x' 1).isLt
  have b3 : (x 2).val < 128 := (x 2).isLt
  have b4 : (x' 2).val < 128 := (x' 2).isLt
  funext (a : Fin 3)
  match a with
  | 0 => exact Fin.ext (by omega)
  | 1 => exact Fin.ext (by omega)
  | 2 => exact Fin.ext (by omega)

/-- The entry with a given page number and row number. -/
def entry (n : Fin 128) (a : Fin 1024) : S32x32x128.Idx :=
  ix3 ⟨n.val / 4, by omega⟩ ⟨n.val % 4 * 8 + a.val / 128, by omega⟩ ⟨a.val % 128, by omega⟩

theorem pg_entry (n : Fin 128) (a : Fin 1024) : (pg (entry n a)).val = n.val := by
  show n.val / 4 * 4 + (n.val % 4 * 8 + a.val / 128) / 8 = n.val
  omega
theorem rw'_entry (n : Fin 128) (a : Fin 1024) : (rw' (entry n a)).val = a.val := by
  show (n.val % 4 * 8 + a.val / 128) % 8 * 128 + a.val % 128 = a.val
  omega

/-- What the three tables hold, in plain numbers, for a list of the blocks' pages and a list of the other pages. -/
structure TabsAre (wg wo pa : S32x32x128.Idx → Elt F .i32) (dp ut : Fin 128 → Fin 256) : Prop where
  dp_inj : Function.Injective dp
  ut_inj : Function.Injective ut
  disj : ∀ k n, ut k ≠ dp n
  wg_at : ∀ x, (wg x).toNat = (pg x).val / 16 * 16384 + (pg x).val % 16 * 128 + ((rw' x).val / 128 * 2048 + (rw' x).val % 128)
  wo_at : ∀ x, (wo x).toNat = (dp (pg x)).val * 1024 + ((rw' x).val % 128 * 8 + (rw' x).val / 128)
  pa_at : ∀ x, (pa x).toNat = (ut (pg x)).val * 1024 + (rw' x).val

/-- Tables that hold those numbers name rows, and each row of the results once. -/
theorem TabsAre.ok {wg wo pa : S32x32x128.Idx → Elt F .i32} {dp ut : Fin 128 → Fin 256} (h : TabsAre wg wo pa dp ut) : TabsOK wg wo pa where
  wg_lt x := by have := h.wg_at x; have := (pg x).isLt; have := (rw' x).isLt; omega
  wo_lt x := by have := h.wo_at x; have := (dp (pg x)).isLt; have := (rw' x).isLt; omega
  pa_lt x := by have := h.pa_at x; have := (ut (pg x)).isLt; have := (rw' x).isLt; omega
  wo_inj x x' e := by
    rw [h.wo_at, h.wo_at] at e
    have := (rw' x).isLt
    have := (rw' x').isLt
    have e1 : dp (pg x) = dp (pg x') := Fin.ext (by omega)
    refine entry_ext x x' (congrArg Fin.val (h.dp_inj e1)) ?_
    rw [e1] at e
    omega
  pa_inj x x' e := by
    rw [h.pa_at, h.pa_at] at e
    have := (rw' x).isLt
    have := (rw' x').isLt
    have e1 : ut (pg x) = ut (pg x') := Fin.ext (by omega)
    refine entry_ext x x' (congrArg Fin.val (h.ut_inj e1)) ?_
    rw [e1] at e
    omega
  apart x x' e := by
    rw [h.wo_at, h.pa_at] at e
    have := (rw' x).isLt
    have := (rw' x').isLt
    exact h.disj (pg x') (pg x) (Fin.ext (by omega))

/-- The host operations before the launch, group by group. -/
theorem after_preOps (V : Valuation τ sig (Elt F)) : StableHlo.after preOps V
    = StableHlo.after flatOps (StableHlo.after tablesOps (StableHlo.after axesOps (StableHlo.after markOps (StableHlo.after pagesOps V)))) := by
  rw [StableHlo.after_append, StableHlo.after_append, StableHlo.after_append, StableHlo.after_append]

/-- The tables the host operations leave, under the precondition. -/
theorem tabs_are (V : Valuation τ sig (Elt F)) {page : Fin 16 → Fin 32} {row : Fin 8 → Fin 8} {dp : Fin 128 → Fin 256}
    (W : Whole (V main_arg0) (V main_arg3) (V main_arg6) page row dp) :
    ∃ ut, TabsAre (F := F) (StableHlo.after preOps V main_v70) (StableHlo.after preOps V main_v71) (StableHlo.after preOps V main_v72) dp ut := by
  rw [after_preOps]
  have e22 : StableHlo.after markOps (StableHlo.after pagesOps V) main_v22 = StableHlo.after pagesOps V main_v22 := by
    generalize StableHlo.after pagesOps V = V'
    after_reads_simp
  have h22 := pages_v22 V W
  obtain ⟨ut, hi, hd, h33⟩ := mark_v33 (StableHlo.after pagesOps V) dp h22
  rw [← e22] at h22
  generalize StableHlo.after markOps (StableHlo.after pagesOps V) = V' at *
  have f70 : ∀ U : Valuation τ sig (Elt F), StableHlo.after flatOps U main_v70 = U main_v70 := fun U => by after_reads_simp
  have f71 : ∀ U : Valuation τ sig (Elt F), StableHlo.after flatOps U main_v71 = U main_v71 := fun U => by after_reads_simp
  have f72 : ∀ U : Valuation τ sig (Elt F), StableHlo.after flatOps U main_v72 = U main_v72 := fun U => by after_reads_simp
  refine ⟨ut, W.apart, hi, hd, fun x => ?_, fun x => ?_, fun x => ?_⟩
  · rw [f70]; exact tables_v70 V' x
  · rw [f71, ← h22]; exact tables_v71 V' x (by rw [h22]; exact (dp _).isLt)
  · rw [f72, ← h33]; exact tables_v72 V' x (by rw [h33]; exact (ut _).isLt)

end Cert.Proof.Fill

end
-- ==== Proof.Reference.lean ====
/-
  The reference's results, read off the launch memory: the rows of a page that a block goes to hold the block, the rows of
  any other page the old cache.
-/
module

public import proofs.«01_k».proof.Proof.Axes
public import proofs.«01_k».proof.Proof.Pages
public import proofs.«01_k».proof.Proof.Gen.ReferenceIdeal.Run
public import Idealize.ShloMosaic.Lib.Pointwise
public import Idealize.ShloMosaic.Lib.Routing.OpsSet

@[expose] public section

set_option maxRecDepth 65536

noncomputable section

namespace Cert.Proof.Fill

open Cert.ReferenceIdeal Cert.ReferenceIdeal.Gen Idealize.ShloMosaic Idealize.ShloMosaic.TcCoe

variable {F : FTy → Type} [FloatOps F]

/-- The page table's entry at a batch and one of its blocks. -/
theorem Whole.pt_block {pos : IVec ⟨2, ![1, 2048]⟩ 32} {bi : IVec ⟨1, ![8]⟩ 32} {pt : IVec ⟨2, ![8, 32]⟩ 32} {page : Fin 16 → Fin 32} {row : Fin 8 → Fin 8}
    {dp : Fin 128 → Fin 256} (W : Whole pos bi pt page row dp) (b : Fin 8) (s : Fin 16) : (pt (ix2 (row b) (page s))).toNat = (dp ⟨b.val * 16 + s.val, by omega⟩).val := by
  rw [← W.pt_at]
  have e1 : (⟨(b.val * 16 + s.val) / 16, by omega⟩ : Fin 8) = b := Fin.ext (by show (b.val * 16 + s.val) / 16 = b.val; omega)
  have e2 : (⟨(b.val * 16 + s.val) % 16, by omega⟩ : Fin 16) = s := Fin.ext (by show (b.val * 16 + s.val) % 16 = s.val; omega)
  simp only [e1, e2]

/-- A position, as the page of its block and its place in it. -/
theorem Whole.pos_row {pos : IVec ⟨2, ![1, 2048]⟩ 32} {bi : IVec ⟨1, ![8]⟩ 32} {pt : IVec ⟨2, ![8, 32]⟩ 32} {page : Fin 16 → Fin 32} {row : Fin 8 → Fin 8}
    {dp : Fin 128 → Fin 256} (W : Whole pos bi pt page row dp) (s : Fin 2048) : (pos (ix2 0 s)).toNat = (page ⟨s.val / 128, by omega⟩).val * 128 + s.val % 128 := by
  have h := W.pos_at ⟨s.val / 128, by omega⟩ ⟨s.val % 128, by omega⟩
  have e : (⟨s.val / 128 * 128 + s.val % 128, by omega⟩ : Fin 2048) = s := Fin.ext (by show s.val / 128 * 128 + s.val % 128 = s.val; omega)
  simp only [e] at h
  exact h

/-- The quotient of a word, as the program computes it. -/
abbrev quotW (x y : BitVec 32) : BitVec 32 :=
  Scalar.select (IntOp.andi (IntOp.cmpi .ne (if x = 0 then 0 else if x.msb = true then -1 else 1) (if y = 0 then 0 else if BitVec.msb y = true then -1 else (1 : BitVec 32)))
    (IntOp.cmpi .ne (IntOp.remsi .host x y) 0#32)) (IntOp.subi (IntOp.divsi .host x y) 1#32) (IntOp.divsi .host x y)

/-- The remainder of a word, as the program computes it. -/
abbrev modW (x y : BitVec 32) : BitVec 32 :=
  Scalar.select (IntOp.andi (IntOp.cmpi .ne (IntOp.cmpi .slt (IntOp.remsi .host x y) 0#32) (IntOp.cmpi .slt y 0#32)) (IntOp.cmpi .ne (IntOp.remsi .host x y) 0#32))
    (IntOp.addi (IntOp.remsi .host x y) y) (IntOp.remsi .host x y)

/-- The page of a position, with the wrap that a negative index would take. -/
theorem page_word (x y z : BitVec 32) (hx : x.toNat < 2 ^ 31) (hy : y = BitVec.ofNat 32 128) :
    (Scalar.select (IntOp.cmpi .slt (quotW x y) 0#32) (IntOp.addi (quotW x y) z) (quotW x y)).toNat = x.toNat / 128 := by
  have e := div_word x.toNat 128 hx (by omega) (by omega) x y (by simp) hy
  have e' : (quotW x y).toNat = x.toNat / 128 := by rw [quotW, e, BitVec.toNat_ofNat]; omega
  rw [fix_word _ _ (by rw [e']; omega), e']

/-- The cache row of a page and a position, with the wrap that a negative index would take. -/
theorem row_word (g x y z : BitVec 32) (hg : g.toNat < 256) (hx : x.toNat < 2 ^ 31) (hy : y = BitVec.ofNat 32 128) :
    (Scalar.select (IntOp.cmpi .slt (IntOp.addi (IntOp.muli g 128#32) (modW x y)) 0#32) (IntOp.addi (IntOp.addi (IntOp.muli g 128#32) (modW x y)) z)
      (IntOp.addi (IntOp.muli g 128#32) (modW x y))).toNat = g.toNat * 128 + x.toNat % 128 := by
  have e := mod_word x.toNat 128 hx (by omega) (by omega) x y (by simp) hy
  have e' : (IntOp.addi (IntOp.muli g 128#32) (modW x y)).toNat = g.toNat * 128 + x.toNat % 128 := by
    rw [modW, e]
    simp only [IntOp.addi, IntOp.muli, BitVec.toNat_add, BitVec.toNat_mul, BitVec.toNat_ofNat]
    omega
  rw [fix_word _ _ (by rw [e']; omega), e']

/-- The cache row of a token: its block's page and its place in the block. -/
def phys (dp : Fin 128 → Fin 256) (q : Fin 16384) : ℕ := (dp ⟨q.val / 128, by omega⟩).val * 128 + q.val % 128

/-- The reference's two results are scatters of the tokens, each to its cache row. -/
theorem ref_scatter (m : (ℓ : Loc nD τ sig) → Buf (Elt F) ℓ) (c : Dev nD) {page : Fin 16 → Fin 32} {row : Fin 8 → Fin 8} {dp : Fin 128 → Fin 256}
    (W : Whole (m ((c.tc : Thread nD τ).loc main_arg0)) (m ((c.tc : Thread nD τ).loc main_arg3)) (m ((c.tc : Thread nD τ).loc main_arg6)) page row dp) :
    ∃ idx : IVec S16384x1 32, (∀ q : Fin 16384, (idx (ix2 q 0)).toNat = phys dp q)
      ∧ Value.res_main_v33 m c = Host.scatter scatter_S32768x8x128_S16384x1_S16384x8x128_12_0_0_1 (fun _ b => b) (m ((c.tc : Thread nD τ).loc main_arg4)) idx
        (shapeCast _ (transpose S8x2048x8x128 [0, 2, 1, 3] (m ((c.tc : Thread nD τ).loc main_arg1)) transposes_S8x8x2048x128_S8x2048x8x128_0_2_1_3) shapeCasts_S8x2048x8x128_S16384x8x128)
      ∧ Value.res_main_v40 m c = Host.scatter scatter_S32768x8x128_S16384x1_S16384x8x128_12_0_0_1 (fun _ b => b) (m ((c.tc : Thread nD τ).loc main_arg5)) idx
        (shapeCast _ (transpose S8x2048x8x128 [0, 2, 1, 3] (m ((c.tc : Thread nD τ).loc main_arg2)) transposes_S8x8x2048x128_S8x2048x8x128_0_2_1_3) shapeCasts_S8x2048x8x128_S16384x8x128) := by
  refine ⟨_, ?_, rfl, rfl⟩
  intro q
  have hb := W.bi_at ⟨q.val / 2048, by omega⟩
  have hp := W.pos_row ⟨q.val % 2048, by omega⟩
  have hpt := W.pt_block ⟨q.val / 2048, by omega⟩ ⟨q.val % 2048 / 128, by omega⟩
  have hq : (⟨q.val / 2048 * 16 + q.val % 2048 / 128, by omega⟩ : Fin 128) = ⟨q.val / 128, by omega⟩ := Fin.ext (by show q.val / 2048 * 16 + q.val % 2048 / 128 = q.val / 128; omega)
  simp only [hq] at hpt hp
  have hpage := (page ⟨q.val % 2048 / 128, by omega⟩).isLt
  have hdp := (dp ⟨q.val / 128, by omega⟩).isLt
  pointwise
  rw [gather_columns (by omega) (by omega) (by omega) (by omega) gather_S8x32_S8x2048x2_S8x2048_n_01_n_n_01_2_11.wf gather_S8x32_S8x2048x2_S8x2048_n_01_n_n_01_2_11 rfl _ _ _ _ _ _
    (row ⟨q.val / 2048, by omega⟩) (page ⟨q.val % 2048 / 128, by omega⟩) ?_ ?_]
  · refine (row_word _ _ _ _ (by rw [hpt]; omega) (by rw [hp]; omega) rfl).trans ?_
    rw [hpt, hp, phys]
    omega
  · pointwise
    rw [fix_word _ _ (by rw [hb]; omega), hb]
  · pointwise
    refine (page_word _ _ _ (by rw [hp]; omega) rfl).trans ?_
    rw [hp]
    omega

/-- An update of the scatter lands at the cache row its index word holds, in its own head and lane. -/
theorem lands_row (idx : IVec S16384x1 32) (q : Fin 16384) (h h' : Fin 8) (e e' : Fin 128) (t : Fin 32768) :
    scatter_S32768x8x128_S16384x1_S16384x8x128_12_0_0_1.resultIdx? (ix3 q h e) idx = some (ix3 t h' e') ↔ (idx (ix2 q 0)).toInt = (t.val : Int) ∧ h = h' ∧ e = e' := by
  rw [Routing.resultIdx?_eq_some]
  have hs : scatter_S32768x8x128_S16384x1_S16384x8x128_12_0_0_1.siIdx (ix3 q h e) ⟨0, by decide⟩ = ix2 q 0 := by
    funext c; refine Fin.ext ?_
    match c with
    | ⟨0, _⟩ => rfl
    | ⟨1, _⟩ => rfl
  have e0 : scatter_S32768x8x128_S16384x1_S16384x8x128_12_0_0_1.start (ix3 q h e) idx 0
      + (scatter_S32768x8x128_S16384x1_S16384x8x128_12_0_0_1.window (ix3 q h e) 0 : Int) = (idx (ix2 q 0)).toInt := by
    rw [← hs]
    show scatter_S32768x8x128_S16384x1_S16384x8x128_12_0_0_1.start (ix3 q h e) idx 0 + ((0 : ℕ) : Int) = _
    rw [Int.natCast_zero, Int.add_zero]
    rfl
  have e1 : scatter_S32768x8x128_S16384x1_S16384x8x128_12_0_0_1.start (ix3 q h e) idx 1
      + (scatter_S32768x8x128_S16384x1_S16384x8x128_12_0_0_1.window (ix3 q h e) 1 : Int) = (h.val : Int) := by
    show (0 : Int) + (h.val : Int) = _
    omega
  have e2 : scatter_S32768x8x128_S16384x1_S16384x8x128_12_0_0_1.start (ix3 q h e) idx 2
      + (scatter_S32768x8x128_S16384x1_S16384x8x128_12_0_0_1.window (ix3 q h e) 2 : Int) = (e.val : Int) := by
    show (0 : Int) + (e.val : Int) = _
    omega
  constructor
  · intro H
    refine ⟨e0.symm.trans (H 0), Fin.ext ?_, Fin.ext ?_⟩
    · exact_mod_cast e1.symm.trans (H 1)
    · exact_mod_cast e2.symm.trans (H 2)
  · rintro ⟨H, rfl, rfl⟩ (a : Fin 3)
    match a with
    | 0 => exact e0.trans H
    | 1 => exact e1
    | 2 => exact e2

/-- The token that block `n` puts at place `j` of its page. -/
def token (n j : Fin 128) : Fin 16384 := ⟨n.val * 128 + j.val, by omega⟩

/-- A cache after the blocks are put in it: the rows of a block's page hold the block's tokens, the rows of other pages the old cache. -/
def Merged (dp : Fin 128 → Fin 256) (src : Shape.Idx ⟨4, ![8, 8, 2048, 128]⟩ → Elt F .f32) (old new : Shape.Idx ⟨3, ![32768, 8, 128]⟩ → Elt F .f32) : Prop :=
  ∀ (t : Fin 32768) (h : Fin 8) (e : Fin 128),
    (∀ n, (dp n).val = t.val / 128 → new (ix3 t h e) = src (ix4 ⟨n.val / 16, by omega⟩ h ⟨n.val % 16 * 128 + t.val % 128, by omega⟩ e))
    ∧ ((∀ n, (dp n).val ≠ t.val / 128) → new (ix3 t h e) = old (ix3 t h e))

/-- There is one such cache. -/
theorem Merged.unique {dp : Fin 128 → Fin 256} {src : Shape.Idx ⟨4, ![8, 8, 2048, 128]⟩ → Elt F .f32} {old new new' : Shape.Idx ⟨3, ![32768, 8, 128]⟩ → Elt F .f32}
    (H : Merged dp src old new) (H' : Merged dp src old new') : new = new' := by
  funext i
  have hi : i = ix3 (i 0) (i 1) (i 2) := by
    funext (a : Fin 3)
    match a with
    | 0 => rfl
    | 1 => rfl
    | 2 => rfl
  rw [hi]
  have h := H (i 0) (i 1) (i 2)
  have h' := H' (i 0) (i 1) (i 2)
  by_cases hn : ∃ n, (dp n).val = (i 0).val / 128
  · obtain ⟨n, hn⟩ := hn
    exact (h.1 n hn).trans (h'.1 n hn).symm
  · exact (h.2 fun n e => hn ⟨n, e⟩).trans (h'.2 fun n e => hn ⟨n, e⟩).symm

/-- A scatter of the tokens to their cache rows puts the blocks in the cache. -/
theorem scatter_rows (old : S32768x8x128.Idx → Elt F .f32) (idx : IVec S16384x1 32) (src : S8x8x2048x128.Idx → Elt F .f32) (dp : Fin 128 → Fin 256) (hdp : Function.Injective dp)
    (hidx : ∀ q : Fin 16384, (idx (ix2 q 0)).toNat = phys dp q) :
    Merged (F := F) dp src old (Host.scatter scatter_S32768x8x128_S16384x1_S16384x8x128_12_0_0_1 (fun _ b => b) old idx
      (shapeCast _ (transpose S8x2048x8x128 [0, 2, 1, 3] src transposes_S8x8x2048x128_S8x2048x8x128_0_2_1_3) shapeCasts_S8x2048x8x128_S16384x8x128)) := by
  intro t h e
  have hint : ∀ q, (idx (ix2 q 0)).toInt = (phys dp q : Int) := fun q => by
    have hq : phys dp q < 2 ^ 15 := by unfold phys; have := (dp ⟨q.val / 128, by omega⟩).isLt; omega
    rw [WordCmp.toInt_eq_toNat_of_lt_half (by rw [hidx]; omega), hidx]
  have heta : ∀ k : S16384x8x128.Idx, ∃ (q : Fin 16384) (h : Fin 8) (e : Fin 128), k = ix3 q h e := fun k => by
    refine ⟨k 0, k 1, k 2, ?_⟩
    funext (a : Fin 3)
    match a with
    | 0 => rfl
    | 1 => rfl
    | 2 => rfl
  have hupd : ∀ (q : Fin 16384) (h : Fin 8) (e : Fin 128),
      shapeCast S16384x8x128 (transpose S8x2048x8x128 [0, 2, 1, 3] src transposes_S8x8x2048x128_S8x2048x8x128_0_2_1_3) shapeCasts_S8x2048x8x128_S16384x8x128 (ix3 q h e)
        = src (ix4 ⟨q.val / 2048, by omega⟩ h ⟨q.val % 2048, by omega⟩ e) := fun q h e => by pointwise
  refine ⟨fun n hn => ?_, fun hn => ?_⟩
  · refine Routing.scatter_set_hit _ _ _ _ _ _ (fun k hk => ?_) (ix3 (token n ⟨t.val % 128, by omega⟩) h e) ((lands_row _ _ _ _ _ _ _).mpr ⟨?_, rfl, rfl⟩)
    · obtain ⟨q, h1, e1, rfl⟩ := heta k
      obtain ⟨hk0, hk1, hk2⟩ := (lands_row _ _ _ _ _ _ _).mp hk
      rw [hint] at hk0
      have hk0' : phys dp q = t.val := by exact_mod_cast hk0
      have hd : dp ⟨q.val / 128, by omega⟩ = dp n := Fin.ext (by rw [hn, ← hk0', phys]; omega)
      have hd' : q.val / 128 = n.val := congrArg Fin.val (hdp hd)
      have hm : q.val % 128 = t.val % 128 := by rw [← hk0', phys]; omega
      rw [hupd, hk1, hk2]
      have i1 : (⟨q.val / 2048, by omega⟩ : Fin 8) = ⟨n.val / 16, by omega⟩ := Fin.ext (by show q.val / 2048 = n.val / 16; omega)
      have i2 : (⟨q.val % 2048, by omega⟩ : Fin 2048) = ⟨n.val % 16 * 128 + t.val % 128, by omega⟩ :=
        Fin.ext (by show q.val % 2048 = n.val % 16 * 128 + t.val % 128; omega)
      rw [i1, i2]
    · rw [hint]
      have e1 : (⟨(n.val * 128 + t.val % 128) / 128, by omega⟩ : Fin 128) = n := Fin.ext (by show (n.val * 128 + t.val % 128) / 128 = n.val; omega)
      have : phys dp (token n ⟨t.val % 128, by omega⟩) = t.val := by
        show (dp ⟨(n.val * 128 + t.val % 128) / 128, _⟩).val * 128 + (n.val * 128 + t.val % 128) % 128 = t.val
        rw [e1, hn]; omega
      exact_mod_cast this
  · refine Routing.scatter_set_miss _ _ _ _ _ (fun k hk => ?_)
    obtain ⟨q, h1, e1, rfl⟩ := heta k
    have hk0 := ((lands_row _ _ _ _ _ _ _).mp hk).1
    rw [hint] at hk0
    have hk0' : phys dp q = t.val := by exact_mod_cast hk0
    refine hn ⟨q.val / 128, by omega⟩ ?_
    rw [← hk0', phys]; omega

/-- The reference puts the blocks in the two caches. -/
theorem ref_merged (m : (ℓ : Loc nD τ sig) → Buf (Elt F) ℓ) (c : Dev nD) {page : Fin 16 → Fin 32} {row : Fin 8 → Fin 8} {dp : Fin 128 → Fin 256}
    (W : Whole (m ((c.tc : Thread nD τ).loc main_arg0)) (m ((c.tc : Thread nD τ).loc main_arg3)) (m ((c.tc : Thread nD τ).loc main_arg6)) page row dp) :
    Merged (F := F) dp (m ((c.tc : Thread nD τ).loc main_arg1)) (m ((c.tc : Thread nD τ).loc main_arg4)) (Value.res_main_v33 m c)
    ∧ Merged (F := F) dp (m ((c.tc : Thread nD τ).loc main_arg2)) (m ((c.tc : Thread nD τ).loc main_arg5)) (Value.res_main_v40 m c) := by
  obtain ⟨idx, hidx, e33, e40⟩ := ref_scatter m c W
  rw [e33, e40]
  exact ⟨scatter_rows _ idx _ dp W.apart hidx, scatter_rows _ idx _ dp W.apart hidx⟩

end Cert.Proof.Fill

end
-- ==== Proof.Final.lean ====
/-
  The program's results and arguments at its end, read off the launch memory.
-/
module

public import proofs.«01_k».proof.Proof.Tables
public import proofs.«01_k».proof.Proof.Reference

@[expose] public section

set_option maxRecDepth 65536

noncomputable section

namespace Cert.Proof.Fill

open Cert.KernelIdeal Cert.KernelIdeal.Gen Idealize.ShloMosaic Idealize.ShloMosaic.TcCoe Idealize.ShloMosaic.StableHlo Idealize.SL.Sem

variable {F : FTy → Type} [FloatOps F]

/-! ## The buffers the host operations leave -/

/-- The host operations before the launch leave the arguments. -/
theorem pre_arg (V : Valuation τ sig (Elt F)) :
    StableHlo.after preOps V main_arg0 = V main_arg0 ∧ StableHlo.after preOps V main_arg1 = V main_arg1 ∧ StableHlo.after preOps V main_arg2 = V main_arg2
    ∧ StableHlo.after preOps V main_arg3 = V main_arg3 ∧ StableHlo.after preOps V main_arg4 = V main_arg4 ∧ StableHlo.after preOps V main_arg5 = V main_arg5
    ∧ StableHlo.after preOps V main_arg6 = V main_arg6 := by
  refine ⟨?_, ?_, ?_, ?_, ?_, ?_, ?_⟩ <;> after_reads_simp

/-- So do those after it. -/
theorem out_arg (V : Valuation τ sig (Elt F)) :
    StableHlo.after outOps V main_arg0 = V main_arg0 ∧ StableHlo.after outOps V main_arg1 = V main_arg1 ∧ StableHlo.after outOps V main_arg2 = V main_arg2
    ∧ StableHlo.after outOps V main_arg3 = V main_arg3 ∧ StableHlo.after outOps V main_arg4 = V main_arg4 ∧ StableHlo.after outOps V main_arg5 = V main_arg5
    ∧ StableHlo.after outOps V main_arg6 = V main_arg6 := by
  refine ⟨?_, ?_, ?_, ?_, ?_, ?_, ?_⟩ <;> after_reads_simp

/-- The kernel's sources are the new keys and values, row by row. -/
theorem pre_v73 (V : Valuation τ sig (Elt F)) (w : Fin 131072) (e : Fin 128) :
    StableHlo.after preOps V main_v73 (ix2 w e) = V main_arg1 (ix4 ⟨w.val / 16384, by omega⟩ ⟨w.val / 2048 % 8, by omega⟩ ⟨w.val % 2048, by omega⟩ e) := by
  after_reads_at
theorem pre_v74 (V : Valuation τ sig (Elt F)) (w : Fin 131072) (e : Fin 128) :
    StableHlo.after preOps V main_v74 (ix2 w e) = V main_arg2 (ix4 ⟨w.val / 16384, by omega⟩ ⟨w.val / 2048 % 8, by omega⟩ ⟨w.val % 2048, by omega⟩ e) := by
  after_reads_at

/-- The kernel's other sources are the old caches, row by row. -/
theorem pre_v75 (V : Valuation τ sig (Elt F)) (w : Fin 262144) (e : Fin 128) :
    StableHlo.after preOps V main_v75 (ix2 w e) = V main_arg4 (ix3 ⟨w.val / 8, by omega⟩ ⟨w.val % 8, by omega⟩ e) := by
  after_reads_at
theorem pre_v76 (V : Valuation τ sig (Elt F)) (w : Fin 262144) (e : Fin 128) :
    StableHlo.after preOps V main_v76 (ix2 w e) = V main_arg5 (ix3 ⟨w.val / 8, by omega⟩ ⟨w.val % 8, by omega⟩ e) := by
  after_reads_at

/-- The results are the kernel's, row by row. -/
theorem out_v78 (V : Valuation τ sig (Elt F)) (t : Fin 32768) (h : Fin 8) (e : Fin 128) :
    StableHlo.after outOps V main_v78 (ix3 t h e) = V main_v77_0 (ix2 ⟨t.val * 8 + h.val, by omega⟩ e) := by
  after_reads_at
theorem out_v79 (V : Valuation τ sig (Elt F)) (t : Fin 32768) (h : Fin 8) (e : Fin 128) :
    StableHlo.after outOps V main_v79 (ix3 t h e) = V main_v77_1 (ix2 ⟨t.val * 8 + h.val, by omega⟩ e) := by
  after_reads_at

/-! ## The kernel's results -/

/-- A page that no block goes to is on the list of the other pages. -/
theorem TabsAre.other {wg wo pa : S32x32x128.Idx → Elt F .i32} {dp ut : Fin 128 → Fin 256} (H : TabsAre wg wo pa dp ut) (p : Fin 256) (hp : ∀ n, dp n ≠ p) : ∃ k, ut k = p := by
  have hinj : Function.Injective (Sum.elim dp ut) := H.dp_inj.sumElim H.ut_inj fun a b => (H.disj b a).symm
  obtain ⟨x, hx⟩ := ((Fintype.bijective_iff_injective_and_card _).mpr ⟨hinj, by simp⟩).2 p
  cases x with
  | inl n => exact absurd hx (hp n)
  | inr k => exact ⟨k, hx⟩

/-- The contents the tables ask for, with the sources and the result read as the arguments are, are the cache with the blocks put in it. -/
theorem filled_merged {wg wo pa : S32x32x128.Idx → Elt F .i32} {dp ut : Fin 128 → Fin 256} (H : TabsAre wg wo pa dp ut) (src : S131072x128.Idx → Elt F .f32) (old : S262144x128.Idx → Elt F .f32)
    (src4 : Shape.Idx ⟨4, ![8, 8, 2048, 128]⟩ → Elt F .f32) (old3 new3 : Shape.Idx ⟨3, ![32768, 8, 128]⟩ → Elt F .f32)
    (hs : ∀ (w : Fin 131072) (e : Fin 128), src (ix2 w e) = src4 (ix4 ⟨w.val / 16384, by omega⟩ ⟨w.val / 2048 % 8, by omega⟩ ⟨w.val % 2048, by omega⟩ e))
    (ho : ∀ (w : Fin 262144) (e : Fin 128), old (ix2 w e) = old3 (ix3 ⟨w.val / 8, by omega⟩ ⟨w.val % 8, by omega⟩ e))
    (hn : ∀ (t : Fin 32768) (h : Fin 8) (e : Fin 128), new3 (ix3 t h e) = filled wg wo src old (ix2 ⟨t.val * 8 + h.val, by omega⟩ e)) : Merged (F := F) dp src4 old3 new3 := by
  intro t h e
  refine ⟨fun n hd => ?_, fun hd => ?_⟩
  · have hpg := pg_entry n ⟨h.val * 128 + t.val % 128, by omega⟩
    have hrw := rw'_entry n ⟨h.val * 128 + t.val % 128, by omega⟩
    have hpg' : pg (entry n ⟨h.val * 128 + t.val % 128, by omega⟩) = n := Fin.ext hpg
    have hwo := H.wo_at (entry n ⟨h.val * 128 + t.val % 128, by omega⟩)
    have hwg := H.wg_at (entry n ⟨h.val * 128 + t.val % 128, by omega⟩)
    rw [hpg', hrw, hd] at hwo
    rw [hpg', hrw] at hwg
    have f1 : (h.val * 128 + t.val % 128) / 128 = h.val := by omega
    have f2 : (h.val * 128 + t.val % 128) % 128 = t.val % 128 := by omega
    simp only [f1, f2] at hwo hwg
    have hh := h.isLt
    have hr : t.val % 128 < 128 := by omega
    have hq : n.val / 16 < 8 := by omega
    have hm : n.val % 16 < 16 := by omega
    have hw : n.val / 16 * 16384 + h.val * 2048 + (n.val % 16 * 128 + t.val % 128) < 131072 := by omega
    rw [hn, filled_w H.ok src old (entry n ⟨h.val * 128 + t.val % 128, by omega⟩) _
      (ix2 ⟨n.val / 16 * 16384 + h.val * 2048 + (n.val % 16 * 128 + t.val % 128), hw⟩ e) ?_ ?_ rfl, hs]
    · have i1 : (⟨(n.val / 16 * 16384 + h.val * 2048 + (n.val % 16 * 128 + t.val % 128)) / 16384, by omega⟩ : Fin 8) = ⟨n.val / 16, by omega⟩ := Fin.ext (by simp only; omega)
      have i2 : (⟨(n.val / 16 * 16384 + h.val * 2048 + (n.val % 16 * 128 + t.val % 128)) / 2048 % 8, by omega⟩ : Fin 8) = h := Fin.ext (by
        have f3 : (n.val / 16 * 16384 + h.val * 2048 + (n.val % 16 * 128 + t.val % 128)) / 2048 = n.val / 16 * 8 + h.val := by omega
        simp only [f3]
        omega)
      have i3 : (⟨(n.val / 16 * 16384 + h.val * 2048 + (n.val % 16 * 128 + t.val % 128)) % 2048, by omega⟩ : Fin 2048) = ⟨n.val % 16 * 128 + t.val % 128, by omega⟩ :=
        Fin.ext (by simp only; omega)
      simp only [i1, i2, i3]
    · show t.val * 8 + h.val = _
      omega
    · show n.val / 16 * 16384 + h.val * 2048 + (n.val % 16 * 128 + t.val % 128) = _
      omega
  · obtain ⟨k, hk⟩ := H.other ⟨t.val / 128, by omega⟩ fun n hp => hd n (congrArg Fin.val hp)
    have hpg := pg_entry k ⟨t.val % 128 * 8 + h.val, by omega⟩
    have hrw := rw'_entry k ⟨t.val % 128 * 8 + h.val, by omega⟩
    have hpg' : pg (entry k ⟨t.val % 128 * 8 + h.val, by omega⟩) = k := Fin.ext hpg
    have hpa := H.pa_at (entry k ⟨t.val % 128 * 8 + h.val, by omega⟩)
    rw [hpg', hrw, hk] at hpa
    simp only at hpa
    rw [hn, filled_p H.ok src old (entry k ⟨t.val % 128 * 8 + h.val, by omega⟩) _ ?_, ho]
    · have i1 : (⟨(t.val * 8 + h.val) / 8, by omega⟩ : Fin 32768) = t := Fin.ext (by simp only; omega)
      have i2 : (⟨(t.val * 8 + h.val) % 8, by omega⟩ : Fin 8) = h := Fin.ext (by simp only; omega)
      simp only [i1, i2]
    · show t.val * 8 + h.val = _
      omega

/-- What the kernel leaves in its two results, from the tables and the sources. -/
theorem arrays_tk (m : (ℓ : Loc nD τ sig) → Buf (Elt F) ℓ) (d : Dev nD) :
    (arrays m d).tk = filled (F := F) (Vpre m d main_v70) (Vpre m d main_v71) (Vpre m d main_v73) (Vpre m d main_v75) := by
  unfold arrays
  generalize Vpre m d = V
  rfl
theorem arrays_tv (m : (ℓ : Loc nD τ sig) → Buf (Elt F) ℓ) (d : Dev nD) :
    (arrays m d).tv = filled (F := F) (Vpre m d main_v70) (Vpre m d main_v71) (Vpre m d main_v74) (Vpre m d main_v76) := by
  unfold arrays
  generalize Vpre m d = V
  rfl

/-- The program puts the blocks in the two caches. -/
theorem prog_merged (m : (ℓ : Loc nD τ sig) → Buf (Elt F) ℓ) (d : Dev nD) {page : Fin 16 → Fin 32} {row : Fin 8 → Fin 8} {dp : Fin 128 → Fin 256}
    (W : Whole (V0 m d main_arg0) (V0 m d main_arg3) (V0 m d main_arg6) page row dp) :
    Merged (F := F) dp (V0 m d main_arg1) (V0 m d main_arg4) (Vend m d main_v78) ∧ Merged (F := F) dp (V0 m d main_arg2) (V0 m d main_arg5) (Vend m d main_v79) := by
  obtain ⟨ut, H⟩ := tabs_are (V0 m d) W
  change TabsAre (F := F) (Vpre m d main_v70) (Vpre m d main_v71) (Vpre m d main_v72) dp ut at H
  refine ⟨filled_merged H (Vpre m d main_v73) (Vpre m d main_v75) _ _ _ (pre_v73 _) (pre_v75 _) fun t h e => ?_,
    filled_merged H (Vpre m d main_v74) (Vpre m d main_v76) _ _ _ (pre_v74 _) (pre_v76 _) fun t h e => ?_⟩
  · refine (out_v78 (Vpost m d) t h e).trans ?_
    rw [Vpost_v0, arrays_tk]
  · refine (out_v79 (Vpost m d) t h e).trans ?_
    rw [Vpost_v1, arrays_tv]

/-- Under the precondition on every device, the tables are as the kernel needs. -/
theorem tabs_of_whole (m : (ℓ : Loc nD τ sig) → Buf (Elt F) ℓ) (hW : ∀ d, ∃ page row dp, Whole (V0 m d main_arg0) (V0 m d main_arg3) (V0 m d main_arg6) page row dp) : Tabs m := fun d => by
  obtain ⟨page, row, dp, W⟩ := hW d
  obtain ⟨ut, H⟩ := tabs_are (V0 m d) W
  exact H.ok

/-- The arguments end as they were. -/
theorem end_arg (m : (ℓ : Loc nD τ sig) → Buf (Elt F) ℓ) (d : Dev nD) :
    Vend m d main_arg0 = V0 m d main_arg0 ∧ Vend m d main_arg1 = V0 m d main_arg1 ∧ Vend m d main_arg2 = V0 m d main_arg2
    ∧ Vend m d main_arg3 = V0 m d main_arg3 ∧ Vend m d main_arg4 = V0 m d main_arg4 ∧ Vend m d main_arg5 = V0 m d main_arg5
    ∧ Vend m d main_arg6 = V0 m d main_arg6 := by
  obtain ⟨h0, h1, h2, h3, h4, h5, h6⟩ := out_arg (Vpost m d)
  obtain ⟨k0, k1, k2, k3, k4, k5, k6⟩ := pre_arg (V0 m d)
  exact ⟨h0.trans ((Vpost_ne m d _ (by decide) (by decide)).trans k0), h1.trans ((Vpost_ne m d _ (by decide) (by decide)).trans k1),
    h2.trans ((Vpost_ne m d _ (by decide) (by decide)).trans k2), h3.trans ((Vpost_ne m d _ (by decide) (by decide)).trans k3),
    h4.trans ((Vpost_ne m d _ (by decide) (by decide)).trans k4), h5.trans ((Vpost_ne m d _ (by decide) (by decide)).trans k5),
    h6.trans ((Vpost_ne m d _ (by decide) (by decide)).trans k6)⟩

/-- The run, read at the results, the arguments and the semaphores. -/
theorem run_read (m : (ℓ : Loc nD τ sig) → Buf (Elt F) ℓ) (ρ : Dev nD → PrngReg) [∀ e, Nonempty (Elt F e)]
    (hW : ∀ d, ∃ page row dp, Whole (V0 m d main_arg0) (V0 m d main_arg3) (V0 m d main_arg6) page row dp) :
    θ_run (Cert.KernelIdeal.defs (F := F)) (Cert.KernelIdeal.threads (F := F)) ⟨m, fun _ => 0, ρ⟩ (fun r => (∀ c : Dev nD,
      r.2.mem ((c.tc : Thread nD τ).loc main_v78) = Vend m c main_v78
      ∧ r.2.mem ((c.tc : Thread nD τ).loc main_v79) = Vend m c main_v79
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := by
  refine (θ_run _ _ _).mono (fun r h => ⟨fun c => ?_, h.2⟩) (run_main m ρ (tabs_of_whole m hW))
  obtain ⟨h0, h1, h2, h3, h4, h5, h6⟩ := end_arg m c
  have H := fun (b : Ref sig .tc) (hb : b.isScoped = false) => h.1 c _ (Pipeline.devRef_mem_ucRefs hb)
  exact ⟨H main_v78 (by decide), H main_v79 (by decide), (H main_arg0 (by decide)).trans h0, (H main_arg1 (by decide)).trans h1, (H main_arg2 (by decide)).trans h2,
    (H main_arg3 (by decide)).trans h3, (H main_arg4 (by decide)).trans h4, (H main_arg5 (by decide)).trans h5, (H main_arg6 (by decide)).trans h6⟩

end Cert.Proof.Fill

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.ReferenceIdeal
public import proofs.«01_k».proof.Proof.Gen.ReferenceIdeal.Run
public import proofs.«01_k».proof.Proof.Gen.Pre_whole_pages
public import proofs.«01_k».proof.Proof.Final
public import Idealize.ShloMosaic.Adequacy
public import Idealize.ShloMosaic.Init

@[expose] public section

noncomputable section

namespace Cert.Proof

open Idealize.ShloMosaic Idealize.ShloMosaic.TcCoe Idealize.SL.Sem Cert.Proof.Fill

/-- The precondition, in plain numbers, of the program's arguments on each device. -/
theorem whole_kernel (m : (ℓ : Loc Cert.Kernel.nD Cert.Kernel.τ Cert.Kernel.sig) → Buf (Elt Bits) ℓ) (h : Cert.Pre_Kernel m) (d : Dev Cert.KernelIdeal.nD) :
    ∃ page row dp, Whole (V0 (F := Bits) m d Cert.KernelIdeal.main_arg0) (V0 (F := Bits) m d Cert.KernelIdeal.main_arg3) (V0 (F := Bits) m d Cert.KernelIdeal.main_arg6) page row dp :=
  whole_of_pre _ _ _ _ _ _ _ (h d).1 (h d).2.1 (h d).2.2.1 (h d).2.2.2.1 (h d).2.2.2.2

/-- The same for the idealized program. -/
theorem whole_ideal (m : (ℓ : Loc Cert.KernelIdeal.nD Cert.KernelIdeal.τ Cert.KernelIdeal.sig) → Buf (Elt Ideal) ℓ) (h : Cert.Pre_KernelIdeal m) (d : Dev Cert.KernelIdeal.nD) :
    ∃ page row dp, Whole (V0 m d Cert.KernelIdeal.main_arg0) (V0 m d Cert.KernelIdeal.main_arg3) (V0 m d Cert.KernelIdeal.main_arg6) page row dp :=
  whole_of_pre _ _ _ _ _ _ _ (h d).1 (h d).2.1 (h d).2.2.1 (h d).2.2.2.1 (h d).2.2.2.2

/-- The program runs to its end, leaves its arguments and its semaphores. -/
theorem frame_kernel : Cert.quiescent_Kernel := fun m g hp =>
  (θ_run (Cert.Kernel.defs (F := Bits)) _ _).mono (fun _ h => ⟨fun c => (h.1 c).2.2, h.2⟩) (run_read (F := Bits) m g (whole_kernel m hp))

/-- So does the idealized program. -/
theorem frame_ideal : Cert.quiescent_KernelIdeal := fun m g hp =>
  (θ_run (Cert.KernelIdeal.defs (F := Ideal)) _ _).mono (fun _ h => ⟨fun c => (h.1 c).2.2, h.2⟩) (run_read (F := Ideal) m g (whole_ideal m hp))

/-- The reference runs to its end, leaves its arguments, and has no semaphore. -/
theorem frame_ref : Cert.quiescent_ReferenceIdeal := fun m g _ =>
  (θ_run (Cert.ReferenceIdeal.defs (F := Ideal)) _ _).mono (fun r h => ⟨fun c => (h c).2.2, sem_eq_zero_of_no_sems (by decide) r.2⟩) (Cert.ReferenceIdeal.Value.run (F := Ideal) m g)

/-- The reference and the idealized reference have the same text. -/
theorem ref_main {F : FTy → Type} [FloatOps F] : Cert.Reference.main (F := F) = Cert.ReferenceIdeal.main (F := F) := by
  funext c
  delta Cert.Reference.main Cert.ReferenceIdeal.main
  rfl

/-- So a run of the one is a run of the other. -/
theorem ref_same {F : FTy → Type} [FloatOps F] {s : MemSt Cert.ReferenceIdeal.nD Cert.ReferenceIdeal.τ Cert.ReferenceIdeal.sig (Elt F)}
    {Q : PUnit × MemSt Cert.ReferenceIdeal.nD Cert.ReferenceIdeal.τ Cert.ReferenceIdeal.sig (Elt F) → Prop}
    (h : θ_run (Cert.ReferenceIdeal.defs (F := F)) (onTc (τ := Cert.ReferenceIdeal.τ) (Cert.ReferenceIdeal.main (F := F))) s Q) :
    θ_run (Cert.Reference.defs (F := F)) (onTc (τ := Cert.Reference.τ) (Cert.Reference.main (F := F))) s Q := by
  rw [ref_main]
  exact h

/-- The reference at the float words has the same frame. -/
theorem frame_ref_bits : Cert.quiescent_Reference := fun m g _ =>
  ref_same ((θ_run (Cert.ReferenceIdeal.defs (F := Bits)) _ _).mono (fun r h => ⟨fun c => (h c).2.2, sem_eq_zero_of_no_sems (by decide) r.2⟩)
    (Cert.ReferenceIdeal.Value.run (F := Bits) m g))

/-- Over any float values: from equal arguments that meet the precondition, the reference ends with the results that the program ends with, since each
    puts the blocks in the two caches. -/
theorem ref_run {F : FTy → Type} [FloatOps F] (m : (ℓ : Loc Cert.KernelIdeal.nD Cert.KernelIdeal.τ Cert.KernelIdeal.sig) → Buf (Elt F) ℓ)
    (hW : ∀ d, ∃ page row dp, Whole (V0 m d Cert.KernelIdeal.main_arg0) (V0 m d Cert.KernelIdeal.main_arg3) (V0 m d Cert.KernelIdeal.main_arg6) page row dp)
    (m' : (ℓ : Loc Cert.ReferenceIdeal.nD Cert.ReferenceIdeal.τ Cert.ReferenceIdeal.sig) → Buf (Elt F) ℓ) (g' : Dev Cert.ReferenceIdeal.nD → PrngReg)
    (ha : ∀ c : Dev Cert.KernelIdeal.nD,
      m' ((c.tc : Thread Cert.ReferenceIdeal.nD Cert.ReferenceIdeal.τ).loc Cert.ReferenceIdeal.main_arg0) = V0 m c Cert.KernelIdeal.main_arg0
      ∧ m' ((c.tc : Thread Cert.ReferenceIdeal.nD Cert.ReferenceIdeal.τ).loc Cert.ReferenceIdeal.main_arg1) = V0 m c Cert.KernelIdeal.main_arg1
      ∧ m' ((c.tc : Thread Cert.ReferenceIdeal.nD Cert.ReferenceIdeal.τ).loc Cert.ReferenceIdeal.main_arg2) = V0 m c Cert.KernelIdeal.main_arg2
      ∧ m' ((c.tc : Thread Cert.ReferenceIdeal.nD Cert.ReferenceIdeal.τ).loc Cert.ReferenceIdeal.main_arg3) = V0 m c Cert.KernelIdeal.main_arg3
      ∧ m' ((c.tc : Thread Cert.ReferenceIdeal.nD Cert.ReferenceIdeal.τ).loc Cert.ReferenceIdeal.main_arg4) = V0 m c Cert.KernelIdeal.main_arg4
      ∧ m' ((c.tc : Thread Cert.ReferenceIdeal.nD Cert.ReferenceIdeal.τ).loc Cert.ReferenceIdeal.main_arg5) = V0 m c Cert.KernelIdeal.main_arg5
      ∧ m' ((c.tc : Thread Cert.ReferenceIdeal.nD Cert.ReferenceIdeal.τ).loc Cert.ReferenceIdeal.main_arg6) = V0 m c Cert.KernelIdeal.main_arg6) :
    θ_run (Cert.ReferenceIdeal.defs (F := F)) (onTc (τ := Cert.ReferenceIdeal.τ) (Cert.ReferenceIdeal.main (F := F))) ⟨m', fun _ => 0, g'⟩ fun r => ∀ c : Dev Cert.ReferenceIdeal.nD,
      r.2.mem ((c.tc : Thread Cert.ReferenceIdeal.nD Cert.ReferenceIdeal.τ).loc Cert.ReferenceIdeal.main_v33) = Vend m c Cert.KernelIdeal.main_v78
      ∧ r.2.mem ((c.tc : Thread Cert.ReferenceIdeal.nD Cert.ReferenceIdeal.τ).loc Cert.ReferenceIdeal.main_v40) = Vend m c Cert.KernelIdeal.main_v79
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6) := by
  refine (θ_run (Cert.ReferenceIdeal.defs (F := F)) _ _).mono (fun r h c => ?_) (Cert.ReferenceIdeal.Value.run (F := F) m' g')
  obtain ⟨page, row, dp, W⟩ := hW c
  obtain ⟨a0, a1, a2, a3, a4, a5, a6⟩ := ha c
  have W' : Whole (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg6)) page row dp := by
    rw [a0, a3, a6]
    exact W
  obtain ⟨p1, p2⟩ := prog_merged m c W
  obtain ⟨r1, r2⟩ := ref_merged m' c W'
  rw [a1, a4] at r1
  rw [a2, a5] at r2
  obtain ⟨h1, h2, h3⟩ := h c
  exact ⟨h1.trans (r1.unique p1), h2.trans (r2.unique p2), h3⟩

/-- The idealized program and the reference end with equal results. -/
theorem equal : Cert.algebraic_KernelIdeal_ReferenceIdeal := fun m g m' g' hp ha =>
  ⟨fun c => Vend m c Cert.KernelIdeal.main_v78, fun c => Vend m c Cert.KernelIdeal.main_v79,
    (θ_run (Cert.KernelIdeal.defs (F := Ideal)) _ _).mono (fun _ h => h.1) (run_read (F := Ideal) m g (whole_ideal m hp)), ref_run m (whole_ideal m hp) m' g' ha⟩

/-- The program and the reference end with the same float words. -/
theorem equal_bits : Cert.bitexact_Kernel_Reference := by
  intro m g m' g' hp ha
  refine ⟨fun c => Vend (F := Bits) m c Cert.KernelIdeal.main_v78, fun c => Vend (F := Bits) m c Cert.KernelIdeal.main_v79, ?_, ?_⟩
  · exact (θ_run (Cert.Kernel.defs (F := Bits)) _ _).mono (fun _ h => h.1) (run_read (F := Bits) m g (whole_kernel m hp))
  · have hw := whole_kernel m hp
    have hr := ref_run (F := Bits) m hw m' g'
    have hr' := ref_same (hr ha)
    exact hr'

theorem claim : Cert.Claim := ⟨Cert.Kernel.Gen.facts, Cert.KernelIdeal.Gen.facts, Cert.ReferenceIdeal.Gen.facts, Cert.Reference.Gen.facts, Cert.Pre_whole_pages.Gen.facts,
  frame_kernel, frame_ideal, frame_ref, fun m g _ => frame_ref m g trivial, frame_ref_bits, fun m g _ => frame_ref_bits m g trivial, trivial, equal, equal_bits⟩

end Cert.Proof

end
